-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_n" .f32 0x3D430C31#32 ((1 / 21 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x21x3 : Shape := ⟨3, ![4096, 21, 3]⟩
abbrev S3x192 : Shape := ⟨2, ![3, 192]⟩
abbrev S192 : Shape := ⟨1, ![192]⟩
abbrev S21x192 : Shape := ⟨2, ![21, 192]⟩
abbrev S3x192x192 : Shape := ⟨3, ![3, 192, 192]⟩
abbrev S3x384x96 : Shape := ⟨3, ![3, 384, 96]⟩
abbrev S3x96 : Shape := ⟨2, ![3, 96]⟩
abbrev S3x96x1 : Shape := ⟨3, ![3, 96, 1]⟩
abbrev S3x1 : Shape := ⟨2, ![3, 1]⟩
abbrev S192x7 : Shape := ⟨2, ![192, 7]⟩
abbrev S7 : Shape := ⟨1, ![7]⟩
abbrev S3x192x96 : Shape := ⟨3, ![3, 192, 96]⟩
abbrev S3x192x384 : Shape := ⟨3, ![3, 192, 384]⟩
abbrev S1x192 : Shape := ⟨2, ![1, 192]⟩
abbrev S1x7 : Shape := ⟨2, ![1, 7]⟩
abbrev S4096x7 : Shape := ⟨2, ![4096, 7]⟩
abbrev S256x21x3 : Shape := ⟨3, ![256, 21, 3]⟩
abbrev S256x7 : Shape := ⟨2, ![256, 7]⟩
abbrev S256x63 : Shape := ⟨2, ![256, 63]⟩
abbrev S256x1 : Shape := ⟨2, ![256, 1]⟩
abbrev S256x192 : Shape := ⟨2, ![256, 192]⟩
abbrev S5376x192 : Shape := ⟨2, ![5376, 192]⟩
abbrev S5376 : Shape := ⟨1, ![5376]⟩
abbrev S5376x1 : Shape := ⟨2, ![5376, 1]⟩
abbrev S1x192x384 : Shape := ⟨3, ![1, 192, 384]⟩
abbrev S192x384 : Shape := ⟨2, ![192, 384]⟩
abbrev S5376x384 : Shape := ⟨2, ![5376, 384]⟩
abbrev S5376x96 : Shape := ⟨2, ![5376, 96]⟩
abbrev S1x96 : Shape := ⟨2, ![1, 96]⟩
abbrev S1x1 : Shape := ⟨2, ![1, 1]⟩
abbrev S256x96 : Shape := ⟨2, ![256, 96]⟩
abbrev S256 : Shape := ⟨1, ![256]⟩

abbrev nBuf : Space → Nat
  | .hbm => 25
  | .vmem => 18
  | .smem => 0
  | _ => 0

abbrev bufTy : (tb : Table) → Fin (tcTables nBuf tb) → BufTy
  | .hbm, ⟨0, _⟩ => ⟨S4096x21x3, .f32⟩
  | .hbm, ⟨1, _⟩ => ⟨S3x192, .f32⟩
  | .hbm, ⟨2, _⟩ => ⟨S192, .f32⟩
  | .hbm, ⟨3, _⟩ => ⟨S21x192, .f32⟩
  | .hbm, ⟨4, _⟩ => ⟨S3x192, .f32⟩
  | .hbm, ⟨5, _⟩ => ⟨S3x192, .f32⟩
  | .hbm, ⟨6, _⟩ => ⟨S3x192x192, .f32⟩
  | .hbm, ⟨7, _⟩ => ⟨S3x192, .f32⟩
  | .hbm, ⟨8, _⟩ => ⟨S3x384x96, .f32⟩
  | .hbm, ⟨9, _⟩ => ⟨S3x96, .f32⟩
  | .hbm, ⟨10, _⟩ => ⟨S3x96x1, .f32⟩
  | .hbm, ⟨11, _⟩ => ⟨S3x1, .f32⟩
  | .hbm, ⟨12, _⟩ => ⟨S192, .f32⟩
  | .hbm, ⟨13, _⟩ => ⟨S192, .f32⟩
  | .hbm, ⟨14, _⟩ => ⟨S192x7, .f32⟩
  | .hbm, ⟨15, _⟩ => ⟨S7, .f32⟩
  | .hbm, ⟨16, _⟩ => ⟨S3x192x96, .f32⟩
  | .hbm, ⟨17, _⟩ => ⟨S3x192x96, .f32⟩
  | .hbm, ⟨18, _⟩ => ⟨S3x192x384, .f32⟩
  | .hbm, ⟨19, _⟩ => ⟨S3x96, .f32⟩
  | .hbm, ⟨20, _⟩ => ⟨S1x192, .f32⟩
  | .hbm, ⟨21, _⟩ => ⟨S1x192, .f32⟩
  | .hbm, ⟨22, _⟩ => ⟨S1x192, .f32⟩
  | .hbm, ⟨23, _⟩ => ⟨S1x7, .f32⟩
  | .hbm, ⟨24, _⟩ => ⟨S4096x7, .f32⟩
  | .local _ .vmem, ⟨0, _⟩ => ⟨S256x21x3, .f32⟩
  | .local _ .vmem, ⟨1, _⟩ => ⟨S256x21x3, .f32⟩
  | .local _ .vmem, ⟨2, _⟩ => ⟨S3x192x384, .f32⟩
  | .local _ .vmem, ⟨3, _⟩ => ⟨S3x192, .f32⟩
  | .local _ .vmem, ⟨4, _⟩ => ⟨S3x96, .f32⟩
  | .local _ .vmem, ⟨5, _⟩ => ⟨S3x96, .f32⟩
  | .local _ .vmem, ⟨6, _⟩ => ⟨S3x1, .f32⟩
  | .local _ .vmem, ⟨7, _⟩ => ⟨S3x192, .f32⟩
  | .local _ .vmem, ⟨8, _⟩ => ⟨S1x192, .f32⟩
  | .local _ .vmem, ⟨9, _⟩ => ⟨S21x192, .f32⟩
  | .local _ .vmem, ⟨10, _⟩ => ⟨S3x192, .f32⟩
  | .local _ .vmem, ⟨11, _⟩ => ⟨S3x192, .f32⟩
  | .local _ .vmem, ⟨12, _⟩ => ⟨S1x192, .f32⟩
  | .local _ .vmem, ⟨13, _⟩ => ⟨S1x192, .f32⟩
  | .local _ .vmem, ⟨14, _⟩ => ⟨S192x7, .f32⟩
  | .local _ .vmem, ⟨15, _⟩ => ⟨S1x7, .f32⟩
  | .local _ .vmem, ⟨16, _⟩ => ⟨S256x7, .f32⟩
  | .local _ .vmem, ⟨17, _⟩ => ⟨S256x7, .f32⟩
  | _, _ => ⟨S4096x21x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x21x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x192x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S21x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x7 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x7 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x7 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "inv_n" => some ((1 / 21 : ℝ) : EReal)
  | _ => none
-- ==== ReferenceIdeal.lean ====
abbrev S4096x21x3 : Shape := ⟨3, ![4096, 21, 3]⟩
abbrev S3x192 : Shape := ⟨2, ![3, 192]⟩
abbrev S192 : Shape := ⟨1, ![192]⟩
abbrev S21x192 : Shape := ⟨2, ![21, 192]⟩
abbrev S3x192x192 : Shape := ⟨3, ![3, 192, 192]⟩
abbrev S3x384x96 : Shape := ⟨3, ![3, 384, 96]⟩
abbrev S3x96 : Shape := ⟨2, ![3, 96]⟩
abbrev S3x96x1 : Shape := ⟨3, ![3, 96, 1]⟩
abbrev S3x1 : Shape := ⟨2, ![3, 1]⟩
abbrev S192x7 : Shape := ⟨2, ![192, 7]⟩
abbrev S7 : Shape := ⟨1, ![7]⟩
abbrev S63 : Shape := ⟨1, ![63]⟩
abbrev S4096x21x192 : Shape := ⟨3, ![4096, 21, 192]⟩
abbrev S1x1x192 : Shape := ⟨3, ![1, 1, 192]⟩
abbrev S1x21x192 : Shape := ⟨3, ![1, 21, 192]⟩
abbrev S1x192 : Shape := ⟨2, ![1, 192]⟩
abbrev S_ : Shape := ⟨0, ![]⟩
abbrev S4096x21 : Shape := ⟨2, ![4096, 21]⟩
abbrev S4096x21x1 : Shape := ⟨3, ![4096, 21, 1]⟩
abbrev S63x1 : Shape := ⟨2, ![63, 1]⟩
abbrev S4096x63x192 : Shape := ⟨3, ![4096, 63, 192]⟩
abbrev S1x192x192 : Shape := ⟨3, ![1, 192, 192]⟩
abbrev S192x192 : Shape := ⟨2, ![192, 192]⟩
abbrev S4096x63x384 : Shape := ⟨3, ![4096, 63, 384]⟩
abbrev S1x384x96 : Shape := ⟨3, ![1, 384, 96]⟩
abbrev S384x96 : Shape := ⟨2, ![384, 96]⟩
abbrev S4096x63x96 : Shape := ⟨3, ![4096, 63, 96]⟩
abbrev S1x96 : Shape := ⟨2, ![1, 96]⟩
abbrev S96 : Shape := ⟨1, ![96]⟩
abbrev S1x1x96 : Shape := ⟨3, ![1, 1, 96]⟩
abbrev S1x96x1 : Shape := ⟨3, ![1, 96, 1]⟩
abbrev S96x1 : Shape := ⟨2, ![96, 1]⟩
abbrev S4096x63x1 : Shape := ⟨3, ![4096, 63, 1]⟩
abbrev S1x1 : Shape := ⟨2, ![1, 1]⟩
abbrev S1 : Shape := ⟨1, ![1]⟩
abbrev S1x1x1 : Shape := ⟨3, ![1, 1, 1]⟩
abbrev S4096x192 : Shape := ⟨2, ![4096, 192]⟩
abbrev S4096x7 : Shape := ⟨2, ![4096, 7]⟩
abbrev S1x7 : Shape := ⟨2, ![1, 7]⟩

abbrev nBuf : Space → Nat
  | .hbm => 366
  | .vmem => 0
  | .smem => 0
  | _ => 0

abbrev hbmTy0_0 (i : Nat) : BufTy := match i % 128 with
  | 0 => ⟨S4096x21x3, .f32⟩
  | 1 => ⟨S3x192, .f32⟩
  | 2 => ⟨S192, .f32⟩
  | 3 => ⟨S21x192, .f32⟩
  | 4 => ⟨S3x192, .f32⟩
  | 5 => ⟨S3x192, .f32⟩
  | 6 => ⟨S3x192x192, .f32⟩
  | 7 => ⟨S3x192, .f32⟩
  | 8 => ⟨S3x384x96, .f32⟩
  | 9 => ⟨S3x96, .f32⟩
  | 10 => ⟨S3x96x1, .f32⟩
  | 11 => ⟨S3x1, .f32⟩
  | 12 => ⟨S192, .f32⟩
  | 13 => ⟨S192, .f32⟩
  | 14 => ⟨S192x7, .f32⟩
  | 15 => ⟨S7, .f32⟩
  | 16 => ⟨S63, .i32⟩
  | 17 => ⟨S63, .i1⟩
  | 18 => ⟨S63, .i32⟩
  | 19 => ⟨S63, .i1⟩
  | 20 => ⟨S63, .i1⟩
  | 21 => ⟨S63, .i1⟩
  | 22 => ⟨S63, .i1⟩
  | 23 => ⟨S63, .i1⟩
  | 24 => ⟨S63, .i1⟩
  | 25 => ⟨S63, .i1⟩
  | 26 => ⟨S63, .i1⟩
  | 27 => ⟨S4096x21x192, .f32⟩
  | 28 => ⟨S1x1x192, .f32⟩
  | 29 => ⟨S4096x21x192, .f32⟩
  | 30 => ⟨S4096x21x192, .f32⟩
  | 31 => ⟨S1x21x192, .f32⟩
  | 32 => ⟨S4096x21x192, .f32⟩
  | 33 => ⟨S4096x21x192, .f32⟩
  | 34 => ⟨S1x192, .f32⟩
  | 35 => ⟨S192, .f32⟩
  | 36 => ⟨S1x192, .f32⟩
  | 37 => ⟨S192, .f32⟩
  | 38 => ⟨S_, .f32⟩
  | 39 => ⟨S4096x21, .f32⟩
  | 40 => ⟨S4096x21x1, .f32⟩
  | 41 => ⟨S_, .f32⟩
  | 42 => ⟨S4096x21x1, .f32⟩
  | 43 => ⟨S4096x21x1, .f32⟩
  | 44 => ⟨S4096x21x192, .f32⟩
  | 45 => ⟨S4096x21x192, .f32⟩
  | 46 => ⟨S4096x21x192, .f32⟩
  | 47 => ⟨S_, .f32⟩
  | 48 => ⟨S4096x21, .f32⟩
  | 49 => ⟨S4096x21x1, .f32⟩
  | 50 => ⟨S_, .f32⟩
  | 51 => ⟨S4096x21x1, .f32⟩
  | 52 => ⟨S4096x21x1, .f32⟩
  | 53 => ⟨S4096x21x192, .f32⟩
  | 54 => ⟨S4096x21x192, .f32⟩
  | 55 => ⟨S_, .f32⟩
  | 56 => ⟨S4096x21x1, .f32⟩
  | 57 => ⟨S4096x21x1, .f32⟩
  | 58 => ⟨S4096x21x1, .f32⟩
  | 59 => ⟨S4096x21x192, .f32⟩
  | 60 => ⟨S4096x21x192, .f32⟩
  | 61 => ⟨S1x1x192, .f32⟩
  | 62 => ⟨S4096x21x192, .f32⟩
  | 63 => ⟨S4096x21x192, .f32⟩
  | 64 => ⟨S1x1x192, .f32⟩
  | 65 => ⟨S4096x21x192, .f32⟩
  | 66 => ⟨S4096x21x192, .f32⟩
  | 67 => ⟨S_, .i32⟩
  | 68 => ⟨S63, .i32⟩
  | 69 => ⟨S63, .i32⟩
  | 70 => ⟨S63, .i32⟩
  | 71 => ⟨S63x1, .i32⟩
  | 72 => ⟨S4096x63x192, .f32⟩
  | 73 => ⟨S_, .i32⟩
  | 74 => ⟨S63, .i32⟩
  | 75 => ⟨S63, .i32⟩
  | 76 => ⟨S63, .i32⟩
  | 77 => ⟨S63x1, .i32⟩
  | 78 => ⟨S4096x63x192, .f32⟩
  | 79 => ⟨S1x192x192, .f32⟩
  | 80 => ⟨S192x192, .f32⟩
  | 81 => ⟨S4096x63x192, .f32⟩
  | 82 => ⟨S1x192, .f32⟩
  | 83 => ⟨S192, .f32⟩
  | 84 => ⟨S1x1x192, .f32⟩
  | 85 => ⟨S4096x63x192, .f32⟩
  | 86 => ⟨S4096x63x192, .f32⟩
  | 87 => ⟨S4096x63x384, .f32⟩
  | 88 => ⟨S1x384x96, .f32⟩
  | 89 => ⟨S384x96, .f32⟩
  | 90 => ⟨S4096x63x96, .f32⟩
  | 91 => ⟨S1x96, .f32⟩
  | 92 => ⟨S96, .f32⟩
  | 93 => ⟨S1x1x96, .f32⟩
  | 94 => ⟨S4096x63x96, .f32⟩
  | 95 => ⟨S4096x63x96, .f32⟩
  | 96 => ⟨S_, .f32⟩
  | 97 => ⟨S4096x63x96, .f32⟩
  | 98 => ⟨S4096x63x96, .f32⟩
  | 99 => ⟨S4096x63x96, .f32⟩
  | 100 => ⟨S_, .f32⟩
  | 101 => ⟨S4096x63x96, .f32⟩
  | 102 => ⟨S4096x63x96, .f32⟩
  | 103 => ⟨S4096x63x96, .f32⟩
  | 104 => ⟨S4096x63x96, .f32⟩
  | 105 => ⟨S1x96x1, .f32⟩
  | 106 => ⟨S96x1, .f32⟩
  | 107 => ⟨S4096x63x1, .f32⟩
  | 108 => ⟨S1x1, .f32⟩
  | 109 => ⟨S1, .f32⟩
  | 110 => ⟨S1x1x1, .f32⟩
  | 111 => ⟨S4096x63x1, .f32⟩
  | 112 => ⟨S4096x63x1, .f32⟩
  | 113 => ⟨S4096x63x1, .f32⟩
  | 114 => ⟨S4096x63x1, .f32⟩
  | 115 => ⟨S_, .f32⟩
  | 116 => ⟨S4096x63x1, .f32⟩
  | 117 => ⟨S4096x63x1, .f32⟩
  | 118 => ⟨S_, .f32⟩
  | 119 => ⟨S4096x63x1, .f32⟩
  | 120 => ⟨S4096x63x1, .f32⟩
  | 121 => ⟨S4096x63x192, .f32⟩
  | 122 => ⟨S4096x63x192, .f32⟩
  | 123 => ⟨S_, .f32⟩
  | 124 => ⟨S4096x21x192, .f32⟩
  | 125 => ⟨S_, .i32⟩
  | 126 => ⟨S63, .i32⟩
  | 127 => ⟨S63, .i32⟩
  | _ => ⟨S4096x21x3, .f32⟩

abbrev hbmTy0_1 (i : Nat) : BufTy := match i % 128 with
  | 0 => ⟨S63, .i32⟩
  | 1 => ⟨S63x1, .i32⟩
  | 2 => ⟨S4096x21x192, .f32⟩
  | 3 => ⟨S4096x21x192, .f32⟩
  | 4 => ⟨S1x192, .f32⟩
  | 5 => ⟨S192, .f32⟩
  | 6 => ⟨S1x192, .f32⟩
  | 7 => ⟨S192, .f32⟩
  | 8 => ⟨S_, .f32⟩
  | 9 => ⟨S4096x21, .f32⟩
  | 10 => ⟨S4096x21x1, .f32⟩
  | 11 => ⟨S_, .f32⟩
  | 12 => ⟨S4096x21x1, .f32⟩
  | 13 => ⟨S4096x21x1, .f32⟩
  | 14 => ⟨S4096x21x192, .f32⟩
  | 15 => ⟨S4096x21x192, .f32⟩
  | 16 => ⟨S4096x21x192, .f32⟩
  | 17 => ⟨S_, .f32⟩
  | 18 => ⟨S4096x21, .f32⟩
  | 19 => ⟨S4096x21x1, .f32⟩
  | 20 => ⟨S_, .f32⟩
  | 21 => ⟨S4096x21x1, .f32⟩
  | 22 => ⟨S4096x21x1, .f32⟩
  | 23 => ⟨S4096x21x192, .f32⟩
  | 24 => ⟨S4096x21x192, .f32⟩
  | 25 => ⟨S_, .f32⟩
  | 26 => ⟨S4096x21x1, .f32⟩
  | 27 => ⟨S4096x21x1, .f32⟩
  | 28 => ⟨S4096x21x1, .f32⟩
  | 29 => ⟨S4096x21x192, .f32⟩
  | 30 => ⟨S4096x21x192, .f32⟩
  | 31 => ⟨S1x1x192, .f32⟩
  | 32 => ⟨S4096x21x192, .f32⟩
  | 33 => ⟨S4096x21x192, .f32⟩
  | 34 => ⟨S1x1x192, .f32⟩
  | 35 => ⟨S4096x21x192, .f32⟩
  | 36 => ⟨S4096x21x192, .f32⟩
  | 37 => ⟨S_, .i32⟩
  | 38 => ⟨S63, .i32⟩
  | 39 => ⟨S63, .i32⟩
  | 40 => ⟨S63, .i32⟩
  | 41 => ⟨S63x1, .i32⟩
  | 42 => ⟨S4096x63x192, .f32⟩
  | 43 => ⟨S_, .i32⟩
  | 44 => ⟨S63, .i32⟩
  | 45 => ⟨S63, .i32⟩
  | 46 => ⟨S63, .i32⟩
  | 47 => ⟨S63x1, .i32⟩
  | 48 => ⟨S4096x63x192, .f32⟩
  | 49 => ⟨S1x192x192, .f32⟩
  | 50 => ⟨S192x192, .f32⟩
  | 51 => ⟨S4096x63x192, .f32⟩
  | 52 => ⟨S1x192, .f32⟩
  | 53 => ⟨S192, .f32⟩
  | 54 => ⟨S1x1x192, .f32⟩
  | 55 => ⟨S4096x63x192, .f32⟩
  | 56 => ⟨S4096x63x192, .f32⟩
  | 57 => ⟨S4096x63x384, .f32⟩
  | 58 => ⟨S1x384x96, .f32⟩
  | 59 => ⟨S384x96, .f32⟩
  | 60 => ⟨S4096x63x96, .f32⟩
  | 61 => ⟨S1x96, .f32⟩
  | 62 => ⟨S96, .f32⟩
  | 63 => ⟨S1x1x96, .f32⟩
  | 64 => ⟨S4096x63x96, .f32⟩
  | 65 => ⟨S4096x63x96, .f32⟩
  | 66 => ⟨S_, .f32⟩
  | 67 => ⟨S4096x63x96, .f32⟩
  | 68 => ⟨S4096x63x96, .f32⟩
  | 69 => ⟨S4096x63x96, .f32⟩
  | 70 => ⟨S_, .f32⟩
  | 71 => ⟨S4096x63x96, .f32⟩
  | 72 => ⟨S4096x63x96, .f32⟩
  | 73 => ⟨S4096x63x96, .f32⟩
  | 74 => ⟨S4096x63x96, .f32⟩
  | 75 => ⟨S1x96x1, .f32⟩
  | 76 => ⟨S96x1, .f32⟩
  | 77 => ⟨S4096x63x1, .f32⟩
  | 78 => ⟨S1x1, .f32⟩
  | 79 => ⟨S1, .f32⟩
  | 80 => ⟨S1x1x1, .f32⟩
  | 81 => ⟨S4096x63x1, .f32⟩
  | 82 => ⟨S4096x63x1, .f32⟩
  | 83 => ⟨S4096x63x1, .f32⟩
  | 84 => ⟨S4096x63x1, .f32⟩
  | 85 => ⟨S_, .f32⟩
  | 86 => ⟨S4096x63x1, .f32⟩
  | 87 => ⟨S4096x63x1, .f32⟩
  | 88 => ⟨S_, .f32⟩
  | 89 => ⟨S4096x63x1, .f32⟩
  | 90 => ⟨S4096x63x1, .f32⟩
  | 91 => ⟨S4096x63x192, .f32⟩
  | 92 => ⟨S4096x63x192, .f32⟩
  | 93 => ⟨S_, .f32⟩
  | 94 => ⟨S4096x21x192, .f32⟩
  | 95 => ⟨S_, .i32⟩
  | 96 => ⟨S63, .i32⟩
  | 97 => ⟨S63, .i32⟩
  | 98 => ⟨S63, .i32⟩
  | 99 => ⟨S63x1, .i32⟩
  | 100 => ⟨S4096x21x192, .f32⟩
  | 101 => ⟨S4096x21x192, .f32⟩
  | 102 => ⟨S1x192, .f32⟩
  | 103 => ⟨S192, .f32⟩
  | 104 => ⟨S1x192, .f32⟩
  | 105 => ⟨S192, .f32⟩
  | 106 => ⟨S_, .f32⟩
  | 107 => ⟨S4096x21, .f32⟩
  | 108 => ⟨S4096x21x1, .f32⟩
  | 109 => ⟨S_, .f32⟩
  | 110 => ⟨S4096x21x1, .f32⟩
  | 111 => ⟨S4096x21x1, .f32⟩
  | 112 => ⟨S4096x21x192, .f32⟩
  | 113 => ⟨S4096x21x192, .f32⟩
  | 114 => ⟨S4096x21x192, .f32⟩
  | 115 => ⟨S_, .f32⟩
  | 116 => ⟨S4096x21, .f32⟩
  | 117 => ⟨S4096x21x1, .f32⟩
  | 118 => ⟨S_, .f32⟩
  | 119 => ⟨S4096x21x1, .f32⟩
  | 120 => ⟨S4096x21x1, .f32⟩
  | 121 => ⟨S4096x21x192, .f32⟩
  | 122 => ⟨S4096x21x192, .f32⟩
  | 123 => ⟨S_, .f32⟩
  | 124 => ⟨S4096x21x1, .f32⟩
  | 125 => ⟨S4096x21x1, .f32⟩
  | 126 => ⟨S4096x21x1, .f32⟩
  | 127 => ⟨S4096x21x192, .f32⟩
  | _ => ⟨S4096x21x3, .f32⟩

abbrev hbmTy0_2 (i : Nat) : BufTy := match i % 128 with
  | 0 => ⟨S4096x21x192, .f32⟩
  | 1 => ⟨S1x1x192, .f32⟩
  | 2 => ⟨S4096x21x192, .f32⟩
  | 3 => ⟨S4096x21x192, .f32⟩
  | 4 => ⟨S1x1x192, .f32⟩
  | 5 => ⟨S4096x21x192, .f32⟩
  | 6 => ⟨S4096x21x192, .f32⟩
  | 7 => ⟨S_, .i32⟩
  | 8 => ⟨S63, .i32⟩
  | 9 => ⟨S63, .i32⟩
  | 10 => ⟨S63, .i32⟩
  | 11 => ⟨S63x1, .i32⟩
  | 12 => ⟨S4096x63x192, .f32⟩
  | 13 => ⟨S_, .i32⟩
  | 14 => ⟨S63, .i32⟩
  | 15 => ⟨S63, .i32⟩
  | 16 => ⟨S63, .i32⟩
  | 17 => ⟨S63x1, .i32⟩
  | 18 => ⟨S4096x63x192, .f32⟩
  | 19 => ⟨S1x192x192, .f32⟩
  | 20 => ⟨S192x192, .f32⟩
  | 21 => ⟨S4096x63x192, .f32⟩
  | 22 => ⟨S1x192, .f32⟩
  | 23 => ⟨S192, .f32⟩
  | 24 => ⟨S1x1x192, .f32⟩
  | 25 => ⟨S4096x63x192, .f32⟩
  | 26 => ⟨S4096x63x192, .f32⟩
  | 27 => ⟨S4096x63x384, .f32⟩
  | 28 => ⟨S1x384x96, .f32⟩
  | 29 => ⟨S384x96, .f32⟩
  | 30 => ⟨S4096x63x96, .f32⟩
  | 31 => ⟨S1x96, .f32⟩
  | 32 => ⟨S96, .f32⟩
  | 33 => ⟨S1x1x96, .f32⟩
  | 34 => ⟨S4096x63x96, .f32⟩
  | 35 => ⟨S4096x63x96, .f32⟩
  | 36 => ⟨S_, .f32⟩
  | 37 => ⟨S4096x63x96, .f32⟩
  | 38 => ⟨S4096x63x96, .f32⟩
  | 39 => ⟨S4096x63x96, .f32⟩
  | 40 => ⟨S_, .f32⟩
  | 41 => ⟨S4096x63x96, .f32⟩
  | 42 => ⟨S4096x63x96, .f32⟩
  | 43 => ⟨S4096x63x96, .f32⟩
  | 44 => ⟨S4096x63x96, .f32⟩
  | 45 => ⟨S1x96x1, .f32⟩
  | 46 => ⟨S96x1, .f32⟩
  | 47 => ⟨S4096x63x1, .f32⟩
  | 48 => ⟨S1x1, .f32⟩
  | 49 => ⟨S1, .f32⟩
  | 50 => ⟨S1x1x1, .f32⟩
  | 51 => ⟨S4096x63x1, .f32⟩
  | 52 => ⟨S4096x63x1, .f32⟩
  | 53 => ⟨S4096x63x1, .f32⟩
  | 54 => ⟨S4096x63x1, .f32⟩
  | 55 => ⟨S_, .f32⟩
  | 56 => ⟨S4096x63x1, .f32⟩
  | 57 => ⟨S4096x63x1, .f32⟩
  | 58 => ⟨S_, .f32⟩
  | 59 => ⟨S4096x63x1, .f32⟩
  | 60 => ⟨S4096x63x1, .f32⟩
  | 61 => ⟨S4096x63x192, .f32⟩
  | 62 => ⟨S4096x63x192, .f32⟩
  | 63 => ⟨S_, .f32⟩
  | 64 => ⟨S4096x21x192, .f32⟩
  | 65 => ⟨S_, .i32⟩
  | 66 => ⟨S63, .i32⟩
  | 67 => ⟨S63, .i32⟩
  | 68 => ⟨S63, .i32⟩
  | 69 => ⟨S63x1, .i32⟩
  | 70 => ⟨S4096x21x192, .f32⟩
  | 71 => ⟨S4096x21x192, .f32⟩
  | 72 => ⟨S_, .f32⟩
  | 73 => ⟨S4096x21, .f32⟩
  | 74 => ⟨S4096x21x1, .f32⟩
  | 75 => ⟨S_, .f32⟩
  | 76 => ⟨S4096x21x1, .f32⟩
  | 77 => ⟨S4096x21x1, .f32⟩
  | 78 => ⟨S4096x21x192, .f32⟩
  | 79 => ⟨S4096x21x192, .f32⟩
  | 80 => ⟨S4096x21x192, .f32⟩
  | 81 => ⟨S_, .f32⟩
  | 82 => ⟨S4096x21, .f32⟩
  | 83 => ⟨S4096x21x1, .f32⟩
  | 84 => ⟨S_, .f32⟩
  | 85 => ⟨S4096x21x1, .f32⟩
  | 86 => ⟨S4096x21x1, .f32⟩
  | 87 => ⟨S4096x21x192, .f32⟩
  | 88 => ⟨S4096x21x192, .f32⟩
  | 89 => ⟨S_, .f32⟩
  | 90 => ⟨S4096x21x1, .f32⟩
  | 91 => ⟨S4096x21x1, .f32⟩
  | 92 => ⟨S4096x21x1, .f32⟩
  | 93 => ⟨S4096x21x192, .f32⟩
  | 94 => ⟨S4096x21x192, .f32⟩
  | 95 => ⟨S1x1x192, .f32⟩
  | 96 => ⟨S4096x21x192, .f32⟩
  | 97 => ⟨S4096x21x192, .f32⟩
  | 98 => ⟨S1x1x192, .f32⟩
  | 99 => ⟨S4096x21x192, .f32⟩
  | 100 => ⟨S4096x21x192, .f32⟩
  | 101 => ⟨S_, .f32⟩
  | 102 => ⟨S4096x192, .f32⟩
  | 103 => ⟨S_, .f32⟩
  | 104 => ⟨S4096x192, .f32⟩
  | 105 => ⟨S4096x192, .f32⟩
  | 106 => ⟨S4096x7, .f32⟩
  | 107 => ⟨S1x7, .f32⟩
  | 108 => ⟨S4096x7, .f32⟩
  | 109 => ⟨S4096x7, .f32⟩
  | _ => ⟨S4096x21x3, .f32⟩

abbrev hbmTy (i : Nat) : BufTy := match i / 128 with
  | 0 => hbmTy0_0 i
  | 1 => hbmTy0_1 i
  | 2 => hbmTy0_2 i
  | _ => ⟨S4096x21x3, .f32⟩

abbrev bufTy : (tb : Table) → Fin (tcTables nBuf tb) → BufTy
  | .hbm, ⟨i, _⟩ => hbmTy i
  | _, _ => ⟨S4096x21x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_c_3 : Ref sig .tc := ⟨.hbm, 20, rfl⟩
abbrev main_c_4 : Ref sig .tc := ⟨.hbm, 21, rfl⟩
abbrev main_c_5 : Ref sig .tc := ⟨.hbm, 22, rfl⟩
abbrev main_c_6 : Ref sig .tc := ⟨.hbm, 23, rfl⟩
abbrev main_c_7 : Ref sig .tc := ⟨.hbm, 24, rfl⟩
abbrev main_c_8 : Ref sig .tc := ⟨.hbm, 25, rfl⟩
abbrev main_c_9 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_cst_10 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_11 : Ref sig .tc := ⟨.hbm, 47, rfl⟩
abbrev main_v18 : Ref sig .tc := ⟨.hbm, 48, rfl⟩
abbrev main_v19 : Ref sig .tc := ⟨.hbm, 49, rfl⟩
abbrev main_cst_12 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_13 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_14 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_15 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_v79 : Ref sig .tc := ⟨.hbm, 116, rfl⟩
abbrev main_v80 : Ref sig .tc := ⟨.hbm, 117, rfl⟩
abbrev main_cst_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_c_21 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_22 : Ref sig .tc := ⟨.hbm, 136, rfl⟩
abbrev main_v96 : Ref sig .tc := ⟨.hbm, 137, rfl⟩
abbrev main_v97 : Ref sig .tc := ⟨.hbm, 138, rfl⟩
abbrev main_cst_23 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_24 : Ref sig .tc := ⟨.hbm, 145, rfl⟩
abbrev main_v103 : Ref sig .tc := ⟨.hbm, 146, rfl⟩
abbrev main_v104 : Ref sig .tc := ⟨.hbm, 147, rfl⟩
abbrev main_cst_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_26 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_c_27 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_28 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_29 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_30 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_cst_31 : Ref sig .tc := ⟨.hbm, 213, rfl⟩
abbrev main_v164 : Ref sig .tc := ⟨.hbm, 214, rfl⟩
abbrev main_v165 : Ref sig .tc := ⟨.hbm, 215, rfl⟩
abbrev main_cst_32 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_33 : Ref sig .tc := ⟨.hbm, 221, rfl⟩
abbrev main_v170 : Ref sig .tc := ⟨.hbm, 222, rfl⟩
abbrev main_c_34 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_35 : Ref sig .tc := ⟨.hbm, 234, rfl⟩
abbrev main_v181 : Ref sig .tc := ⟨.hbm, 235, rfl⟩
abbrev main_v182 : Ref sig .tc := ⟨.hbm, 236, rfl⟩
abbrev main_cst_36 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_37 : Ref sig .tc := ⟨.hbm, 243, rfl⟩
abbrev main_v188 : Ref sig .tc := ⟨.hbm, 244, rfl⟩
abbrev main_v189 : Ref sig .tc := ⟨.hbm, 245, rfl⟩
abbrev main_cst_38 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_39 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_c_40 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_c_41 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_42 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_cst_43 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_cst_44 : Ref sig .tc := ⟨.hbm, 311, rfl⟩
abbrev main_v249 : Ref sig .tc := ⟨.hbm, 312, rfl⟩
abbrev main_v250 : Ref sig .tc := ⟨.hbm, 313, rfl⟩
abbrev main_cst_45 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_cst_46 : Ref sig .tc := ⟨.hbm, 319, rfl⟩
abbrev main_v255 : Ref sig .tc := ⟨.hbm, 320, rfl⟩
abbrev main_c_47 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_cst_48 : Ref sig .tc := ⟨.hbm, 328, rfl⟩
abbrev main_v262 : Ref sig .tc := ⟨.hbm, 329, rfl⟩
abbrev main_v263 : Ref sig .tc := ⟨.hbm, 330, rfl⟩
abbrev main_cst_49 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_cst_50 : Ref sig .tc := ⟨.hbm, 337, rfl⟩
abbrev main_v269 : Ref sig .tc := ⟨.hbm, 338, rfl⟩
abbrev main_v270 : Ref sig .tc := ⟨.hbm, 339, rfl⟩
abbrev main_cst_51 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_cst_52 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_cst_53 : Ref sig .tc := ⟨.hbm, 357, rfl⟩
abbrev main_v286 : Ref sig .tc := ⟨.hbm, 358, rfl⟩
abbrev main_cst_54 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩

abbrev nD : Nat := 1
abbrev τ : Topo := Topo.v7x

variable {F : FTy → Type} [FloatOps F]
-- ==== Proof.Frames.lean ====
/- The claims that say nothing of the results' contents: the three programs end quietly with their arguments unchanged,
   and the one named constant stands for the number that its name gives. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The reference ends with its arguments unchanged and every counter at zero. -/
theorem frame_reference : Cert.quiescent_ReferenceIdeal := fun m ρ _ =>
  θ_run_mono (Cert.ReferenceIdeal.Value.run m ρ) fun r h => ⟨fun c => (h c).2, funext fun x => by
    rcases x with ⟨_, s | s⟩ <;> exact nomatch s⟩

/-- The kernel ends with its arguments unchanged and every counter at zero, over the bits. -/
theorem frame_kernel : Cert.quiescent_Kernel := fun m ρ _ => Cert.Kernel.Gen.frame m ρ

/-- The same of the kernel with the named constant. -/
theorem frame_ideal : Cert.quiescent_KernelIdeal := fun m ρ _ => Cert.KernelIdeal.Gen.frame m ρ

/-- The named constant `inv_n` is `1 / 21`. -/
theorem preserves : Cert.preserves_Kernel_KernelIdeal :=
  IdealRules.named_const.statement Cert.KernelIdeal.κ "inv_n" .f32 0x3D430C31#32 ((1 / 21 : ℝ) : EReal) rfl

end Cert.Proof

end
-- ==== Proof.Net.lean ====
/- The kernel's body as a function of its blocks, in the kernel's own vector operations: the embedding of the
   landmarks, one layer, and the head. A block holds 256 batch rows; the hidden state holds the 21 landmarks one
   after another, landmark `l` on rows `256 * l` to `256 * l + 255`. -/
module

public import proofs.«01_k».proof.Proof.Gen.KernelIdeal.Value
public import Idealize.ShloMosaic.Lib.Pointwise
public import Idealize.ShloMosaic.Lib.Pipeline.ValueKit

@[expose] public section

noncomputable section

namespace Cert.Net

open Idealize.ShloMosaic Cert.KernelIdeal

variable {F : FTy → Type} [FloatOps F]

/-- The 256 rows of landmark `l` lie inside the hidden state. -/
theorem slices192 (l : Fin 21) : S5376x192.Slices ![256 * l.val, 0] S256x192 :=
  ⟨rfl, fun a => by
    have := l.isLt
    match a with
    | ⟨0, _⟩ => show 256 * l.val + 256 ≤ 5376; omega
    | ⟨1, _⟩ => show 0 + 192 ≤ 192; omega⟩

/-- The 256 rows of landmark `l` lie inside a gate projection. -/
theorem slices96 (l : Fin 21) : S5376x96.Slices ![256 * l.val, 0] S256x96 :=
  ⟨rfl, fun a => by
    have := l.isLt
    match a with
    | ⟨0, _⟩ => show 256 * l.val + 256 ≤ 5376; omega
    | ⟨1, _⟩ => show 0 + 96 ≤ 96; omega⟩

/-- Column `k` lies inside the input block. -/
theorem slicesX (k : Fin 63) : S256x63.Slices ![0, k.val] S256x1 :=
  ⟨rfl, fun a => by
    have := k.isLt
    match a with
    | ⟨0, _⟩ => show 0 + 256 ≤ 256; omega
    | ⟨1, _⟩ => show k.val + 1 ≤ 63; omega⟩

/-- Row `l` lies inside the joint embedding. -/
theorem slicesJ (l : Fin 21) : S21x192.Slices ![l.val, 0] S1x192 :=
  ⟨rfl, fun a => by
    have := l.isLt
    match a with
    | ⟨0, _⟩ => show l.val + 1 ≤ 21; omega
    | ⟨1, _⟩ => show 0 + 192 ≤ 192; omega⟩

/-- Row `k` lies inside an array of three rows of 192. -/
theorem slices3 (k : Fin 3) : S3x192.Slices ![k.val, 0] S1x192 :=
  ⟨rfl, fun a => by
    have := k.isLt
    match a with
    | ⟨0, _⟩ => show k.val + 1 ≤ 3; omega
    | ⟨1, _⟩ => show 0 + 192 ≤ 192; omega⟩

/-- Row `k` lies inside an array of three rows of 96. -/
theorem slices3g (k : Fin 3) : S3x96.Slices ![k.val, 0] S1x96 :=
  ⟨rfl, fun a => by
    have := k.isLt
    match a with
    | ⟨0, _⟩ => show k.val + 1 ≤ 3; omega
    | ⟨1, _⟩ => show 0 + 96 ≤ 96; omega⟩

/-- Matrix `k` lies inside the stack of three weight matrices. -/
theorem slices3w (k : Fin 3) : S3x192x384.Slices ![k.val, 0, 0] S1x192x384 :=
  ⟨rfl, fun a => by
    have := k.isLt
    match a with
    | ⟨0, _⟩ => show k.val + 1 ≤ 3; omega
    | ⟨1, _⟩ => show 0 + 192 ≤ 192; omega
    | ⟨2, _⟩ => show 0 + 384 ≤ 384; omega⟩

/-- Number `k` lies inside the three gate offsets. -/
theorem slices1 (k : Fin 3) : S3x1.Slices ![k.val, 0] S1x1 :=
  ⟨rfl, fun a => by
    have := k.isLt
    match a with
    | ⟨0, _⟩ => show k.val + 1 ≤ 3; omega
    | ⟨1, _⟩ => show 0 + 1 ≤ 1; omega⟩

/-- The gate's offset of layer `k`. -/
def pick (x : FVec F S3x1 .f32) (k : Fin 3) : F .f32 :=
  extractAt ![0, 0] (extractStridedSlice S1x1 ![k.val, 0] x (slices1 k)) Gen.facts.inpos_S1x1_p0_0

/-- It is the entry in row `k`. -/
theorem pick_eq (x : FVec F S3x1 .f32) (k : Fin 3) : pick x k = x (ix2 k 0) := by
  refine congrArg x (funext fun a => Fin.ext ?_)
  fin_cases a
  · show k.val + 0 = k.val
    rfl
  · rfl

/-- The block of coordinates with the three of each landmark side by side. -/
def flat (x : FVec F S256x21x3 .f32) : FVec F S256x63 .f32 :=
  shapeCast S256x63 x Gen.facts.reshapes_S256x21x3_S256x63.1

/-- Row `k` of three rows of 192. -/
def row3 (w : FVec F S3x192 .f32) (k : Fin 3) : FVec F S1x192 .f32 := extractStridedSlice S1x192 ![k.val, 0] w (slices3 k)

/-- Row `k` of three rows of 96. -/
def row3g (w : FVec F S3x96 .f32) (k : Fin 3) : FVec F S1x96 .f32 := extractStridedSlice S1x96 ![k.val, 0] w (slices3g k)

/-- Column `k` of the input block times row `i` of the input weights. -/
def embTerm (x : FVec F S256x63 .f32) (win : FVec F S3x192 .f32) (k : Fin 63) (i : Fin 3) : FVec F S256x192 .f32 :=
  mulf (broadcastTo S256x192 (extractStridedSlice S256x1 ![0, k.val] x (slicesX k)) Gen.facts.broadcasts_S256x1_S256x192)
    (broadcastTo S256x192 (row3 win i) Gen.facts.broadcasts_S1x192_S256x192)

/-- The embedding of landmark `l`. -/
def embRow (x : FVec F S256x63 .f32) (win : FVec F S3x192 .f32) (bin : FVec F S1x192 .f32) (je : FVec F S21x192 .f32)
    (l : Fin 21) : FVec F S256x192 .f32 :=
  addf (addf (addf (addf (embTerm x win ⟨3 * l.val, by omega⟩ 0) (embTerm x win ⟨3 * l.val + 1, by omega⟩ 1))
        (embTerm x win ⟨3 * l.val + 2, by omega⟩ 2))
      (broadcastTo S256x192 bin Gen.facts.broadcasts_S1x192_S256x192))
    (broadcastTo S256x192 (extractStridedSlice S1x192 ![l.val, 0] je (slicesJ l)) Gen.facts.broadcasts_S1x192_S256x192)

/-- 21 blocks of 256 rows, one under another. -/
def stack (f : Fin 21 → FVec F S256x192 .f32) : FVec F S5376x192 .f32 :=
  concatenate S5376x192 0 (List.ofFn fun l => (⟨S256x192, f l⟩ : (s : Shape) × (s.Idx → F .f32)))
    (by
      have h : (List.ofFn fun l : Fin 21 => (⟨S256x192, f l⟩ : (s : Shape) × (s.Idx → F .f32))).map (·.1)
          = List.replicate 21 S256x192 := by
        rw [List.map_ofFn]; rfl
      rw [h]
      decide)

/-- The hidden state before the first layer. -/
def emb (x : FVec F S256x63 .f32) (win : FVec F S3x192 .f32) (bin : FVec F S1x192 .f32) (je : FVec F S21x192 .f32) :
    FVec F S5376x192 .f32 :=
  stack (embRow x win bin je)

/-- The row means of a hidden state, as a column. -/
def mean (h : FVec F S5376x192 .f32) : FVec F S5376x1 .f32 :=
  divf (shapeCast S5376x1 (multiReduction .add [1] S5376 h 0x00000000#32 Gen.facts.reduces_S5376x192_S5376 (.inl rfl) rfl)
      Gen.facts.shapeCasts_S5376_S5376x1)
    (broadcast S5376x1 (Scalar.ofBits .f32 0x43400000#32))

/-- A hidden state less its row means. -/
def centre (h : FVec F S5376x192 .f32) : FVec F S5376x192 .f32 :=
  subf h (broadcastTo S5376x192 (mean h) Gen.facts.broadcasts_S5376x1_S5376x192)

/-- The row variances of a hidden state plus the small constant, as a column. -/
def spread (h : FVec F S5376x192 .f32) : FVec F S5376x1 .f32 :=
  addf (mean (mulf (centre h) (centre h))) (broadcast S5376x1 (Scalar.ofBits .f32 0x3727C5AC#32))

/-- The layer normalization of each row, with gain `g` and offset `b`. -/
def norm (h : FVec F S5376x192 .f32) (g b : FVec F S1x192 .f32) : FVec F S5376x192 .f32 :=
  addf (mulf (mulf (centre h) (broadcastTo S5376x192 (rsqrt (spread h)) Gen.facts.broadcasts_S5376x1_S5376x192))
      (broadcastTo S5376x192 g Gen.facts.broadcasts_S1x192_S5376x192))
    (broadcastTo S5376x192 b Gen.facts.broadcasts_S1x192_S5376x192)

/-- The product of a normalized state with the layer's three weight matrices side by side. -/
def proj (xn : FVec F S5376x192 .f32) (w : FVec F S3x192x384 .f32) (k : Fin 3) : FVec F S5376x384 .f32 :=
  matmul dot_S5376x192_S192x384_S5376x384_1_0_0_1_n_n none xn
    (shapeCast S192x384 (extractStridedSlice S1x192x384 ![k.val, 0, 0] w (slices3w k)) Gen.facts.shapeCasts_S1x192x384_S192x384)
    (constant S5376x384 .f32 0x00000000#32)

/-- The values, from the product. -/
def vals (p : FVec F S5376x384 .f32) (bv : FVec F S1x192 .f32) : FVec F S5376x192 .f32 :=
  addf (extractStridedSlice S5376x192 ![0, 0] p Gen.facts.slices_S5376x384_o0_0_S5376x192)
    (broadcastTo S5376x192 bv Gen.facts.broadcasts_S1x192_S5376x192)

/-- The gate's part from the source, from the product. -/
def gsrc (p : FVec F S5376x384 .f32) (bg : FVec F S1x96 .f32) : FVec F S5376x96 .f32 :=
  addf (extractStridedSlice S5376x96 ![0, 192] p Gen.facts.slices_S5376x384_o0_192_S5376x96)
    (broadcastTo S5376x96 bg Gen.facts.broadcasts_S1x96_S5376x96)

/-- The gate's part from the target, from the product. -/
def gdst (p : FVec F S5376x384 .f32) : FVec F S5376x96 .f32 :=
  extractStridedSlice S5376x96 ![0, 288] p Gen.facts.slices_S5376x384_o0_288_S5376x96

/-- The gate's hidden units on the edge from `s` to `d`, before the activation. -/
def edge (a1 a2 : FVec F S5376x96 .f32) (s d : Fin 21) : FVec F S256x96 .f32 :=
  addf (extractStridedSlice S256x96 ![256 * s.val, 0] a1 (slices96 s))
    (extractStridedSlice S256x96 ![256 * d.val, 0] a2 (slices96 d))

/-- The activation, `0.5 u (1 + erf (u / √2))`. -/
def act (u : FVec F S256x96 .f32) : FVec F S256x96 .f32 :=
  mulf (mulf (broadcast S256x96 (Scalar.ofBits .f32 0x3F000000#32)) u)
    (addf (broadcast S256x96 (Scalar.ofBits .f32 0x3F800000#32))
      (erf (mulf u (broadcast S256x96 (Scalar.ofBits .f32 0x3F3504F3#32)))))

/-- The gate of an edge, as a column. -/
def gate (u : FVec F S256x96 .f32) (w2 : FVec F S1x96 .f32) (b2 : F .f32) : FVec F S256x1 .f32 :=
  logistic (addf (shapeCast S256x1 (multiReduction .add [1] S256
        (mulf (act u) (broadcastTo S256x96 w2 Gen.facts.broadcasts_S1x96_S256x96)) 0x00000000#32
        Gen.facts.reduces_S256x96_S256 (.inl rfl) rfl) Gen.facts.shapeCasts_S256_S256x1)
    (broadcast S256x1 b2))

/-- The message on the edge from `s` to `d`. -/
def msg (v : FVec F S5376x192 .f32) (a1 a2 : FVec F S5376x96 .f32) (w2 : FVec F S1x96 .f32) (b2 : F .f32) (s d : Fin 21) :
    FVec F S256x192 .f32 :=
  mulf (broadcastTo S256x192 (gate (edge a1 a2 s d) w2 b2) Gen.facts.broadcasts_S256x1_S256x192)
    (extractStridedSlice S256x192 ![256 * s.val, 0] v (slices192 s))

/-- The first landmark with an edge into `d`, in the order of the edge list. -/
def src0 : Fin 21 → Fin 21 := ![1, 0, 1, 2, 3, 0, 5, 6, 7, 5, 9, 10, 11, 9, 13, 14, 15, 13, 17, 18, 19]

/-- The other landmarks with an edge into `d`, in the order of the edge list. -/
def srcs : Fin 21 → List (Fin 21) :=
  ![[5, 17, 0], [2, 1], [3, 2], [4, 3], [4], [6, 9, 5], [7, 6], [8, 7], [8], [10, 13, 9], [11, 10], [12, 11], [12],
    [14, 17, 13], [15, 14], [16, 15], [16], [18, 0, 17], [19, 18], [20, 19], [20]]

/-- The sum of the messages into landmark `d`. -/
def agg (m : Fin 21 → Fin 21 → FVec F S256x192 .f32) (d : Fin 21) : FVec F S256x192 .f32 :=
  (srcs d).foldl (fun acc s => addf acc (m s d)) (m (src0 d) d)

/-- The messages of all landmarks, added to the state. -/
def layer' (h : FVec F S5376x192 .f32) (v : FVec F S5376x192 .f32) (a1 a2 : FVec F S5376x96 .f32) (w2 : FVec F S1x96 .f32)
    (b2 : F .f32) : FVec F S5376x192 .f32 :=
  addf h (stack (agg (msg v a1 a2 w2 b2)))

/-- One layer. -/
def layer (k : Fin 3) (w : FVec F S3x192x384 .f32) (bv : FVec F S3x192 .f32) (bg wg : FVec F S3x96 .f32) (b2 : F .f32)
    (g b : FVec F S3x192 .f32) (h : FVec F S5376x192 .f32) : FVec F S5376x192 .f32 :=
  layer' h (vals (proj (norm h (row3 g k) (row3 b k)) w k) (row3 bv k))
    (gsrc (proj (norm h (row3 g k) (row3 b k)) w k) (row3g bg k)) (gdst (proj (norm h (row3 g k) (row3 b k)) w k))
    (row3g wg k) b2

/-- The sum of the 21 landmarks of a state. -/
def total (y : FVec F S5376x192 .f32) : FVec F S256x192 .f32 :=
  (List.finRange 20).foldl (fun acc l => addf acc (extractStridedSlice S256x192 ![256 * l.succ.val, 0] y (slices192 l.succ)))
    (extractStridedSlice S256x192 ![256 * (0 : Fin 21).val, 0] y (slices192 0))

/-- The head: normalization, mean over the landmarks, the linear classifier and its bias. -/
def head [Named F] (h : FVec F S5376x192 .f32) (g b : FVec F S1x192 .f32) (wc : FVec F S192x7 .f32) (bc : FVec F S1x7 .f32) :
    FVec F S256x7 .f32 :=
  addf (matmul dot_S256x192_S192x7_S256x7_1_0_0_1_n_n none
      (mulf (total (norm h g b)) (broadcast S256x192 (Named.named κ "inv_n" 0x3D430C31#32))) wc
      (constant S256x7 .f32 0x00000000#32))
    (broadcastTo S256x7 bc Gen.facts.broadcasts_S1x7_S256x7)

/-- The block of logits, from the blocks of the arguments. -/
def net [Named F] (x0 : FVec F S256x63 .f32) (x1 : FVec F S3x192x384 .f32) (x2 : FVec F S3x192 .f32) (x3 x4 : FVec F S3x96 .f32)
    (x5 : FVec F S3x1 .f32) (x6 : FVec F S3x192 .f32) (x7 : FVec F S1x192 .f32) (x8 : FVec F S21x192 .f32)
    (x9 x10 : FVec F S3x192 .f32) (x11 x12 : FVec F S1x192 .f32) (x13 : FVec F S192x7 .f32) (x14 : FVec F S1x7 .f32) :
    FVec F S256x7 .f32 :=
  head (layer 2 x1 x2 x3 x4 (x5 (ix2 2 0)) x9 x10 (layer 1 x1 x2 x3 x4 (x5 (ix2 1 0)) x9 x10
    (layer 0 x1 x2 x3 x4 (x5 (ix2 0 0)) x9 x10 (emb x0 x6 x7 x8)))) x11 x12 x13 x14

end Cert.Net
-- ==== Proof.Body.lean ====
/- The kernel's run leaves in its output block the function `Net.net` of the blocks that it finds. -/
module

public import proofs.«01_k».proof.Proof.Net

@[expose] public section

set_option maxRecDepth 100000
set_option maxHeartbeats 0

noncomputable section

namespace Cert.Net

open Idealize.ShloMosaic Cert.KernelIdeal Cert.KernelIdeal.Gen

variable {F : FTy → Type} [FloatOps F] [Named F]

/-- The hidden state before the first layer, as the run names it. -/
theorem run_emb (c : Dev nD) (arg1 : Memref sig .tc .vmem S256x21x3 .f32) (harg1 : arg1.IsWhole) (arg7 : Memref sig .tc .vmem S3x192 .f32) (harg7 : arg7.IsWhole) (arg8 : Memref sig .tc .vmem S1x192 .f32) (harg8 : arg8.IsWhole) (arg9 : Memref sig .tc .vmem S21x192 .f32) (harg9 : arg9.IsWhole) (x0 : Vec F S256x21x3 .f32) (x6 : Vec F S3x192 .f32) (x7 : Vec F S1x192 .f32) (x8 : Vec F S21x192 .f32) :
    kernelRun0_A.sl.v468 (F := F) c arg1 harg1 arg7 harg7 arg8 harg8 arg9 harg9 x0 x6 x7 x8 = emb (kernelRun0_A.sl.v1 (F := F) c arg1 harg1 x0) (View.readAt (Elt F) arg7.view (Rect.unit ![0, 0] S3x192.size Cert.KernelIdeal.Gen.facts.inb_S3x192_S3x192_0_0).toLoadRect (harg7.unread x6)) (kernelRun0_A.sl.v4 (F := F) c arg8 harg8 x7) (kernelRun0_A.sl.r_1 (F := F) c arg9 harg9 x8) := by
  rfl

/-- The hidden state after the first layer, as the run names it. -/
theorem run_layer0 (c : Dev nD) (arg1 : Memref sig .tc .vmem S256x21x3 .f32) (harg1 : arg1.IsWhole) (arg2 : Memref sig .tc .vmem S3x192x384 .f32) (harg2 : arg2.IsWhole) (arg3 : Memref sig .tc .vmem S3x192 .f32) (harg3 : arg3.IsWhole) (arg4 : Memref sig .tc .vmem S3x96 .f32) (harg4 : arg4.IsWhole) (arg5 : Memref sig .tc .vmem S3x96 .f32) (harg5 : arg5.IsWhole) (arg6 : Memref sig .tc .vmem S3x1 .f32) (harg6 : arg6.IsWhole) (arg7 : Memref sig .tc .vmem S3x192 .f32) (harg7 : arg7.IsWhole) (arg8 : Memref sig .tc .vmem S1x192 .f32) (harg8 : arg8.IsWhole) (arg9 : Memref sig .tc .vmem S21x192 .f32) (harg9 : arg9.IsWhole) (arg10 : Memref sig .tc .vmem S3x192 .f32) (harg10 : arg10.IsWhole) (arg11 : Memref sig .tc .vmem S3x192 .f32) (harg11 : arg11.IsWhole) (x0 : Vec F S256x21x3 .f32) (x1 : Vec F S3x192x384 .f32) (x2 : Vec F S3x192 .f32) (x3 : Vec F S3x96 .f32) (x4 : Vec F S3x96 .f32) (x5 : Vec F S3x1 .f32) (x6 : Vec F S3x192 .f32) (x7 : Vec F S1x192 .f32) (x8 : Vec F S21x192 .f32) (x9 : Vec F S3x192 .f32) (x10 : Vec F S3x192 .f32) :
    kernelRun0_A.sl.v1883 (F := F) c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer 0 (kernelRun0_A.sl.v470 (F := F) c arg2 harg2 x1) (kernelRun0_A.sl.r_2 (F := F) c arg3 harg3 x2) (kernelRun0_A.sl.r_3 (F := F) c arg4 harg4 x3) (kernelRun0_A.sl.v474 (F := F) c arg5 harg5 x4) (pick (kernelRun0_A.sl.r_4 (F := F) c arg6 harg6 x5) 0) (kernelRun0_A.sl.r_5 (F := F) c arg10 harg10 x9) (kernelRun0_A.sl.r_6 (F := F) c arg11 harg11 x10) (kernelRun0_A.sl.v468 (F := F) c arg1 harg1 arg7 harg7 arg8 harg8 arg9 harg9 x0 x6 x7 x8) := by
  rfl

/-- The hidden state after the second layer, as the run names it. -/
theorem run_layer1 (c : Dev nD) (arg1 : Memref sig .tc .vmem S256x21x3 .f32) (harg1 : arg1.IsWhole) (arg2 : Memref sig .tc .vmem S3x192x384 .f32) (harg2 : arg2.IsWhole) (arg3 : Memref sig .tc .vmem S3x192 .f32) (harg3 : arg3.IsWhole) (arg4 : Memref sig .tc .vmem S3x96 .f32) (harg4 : arg4.IsWhole) (arg5 : Memref sig .tc .vmem S3x96 .f32) (harg5 : arg5.IsWhole) (arg6 : Memref sig .tc .vmem S3x1 .f32) (harg6 : arg6.IsWhole) (arg7 : Memref sig .tc .vmem S3x192 .f32) (harg7 : arg7.IsWhole) (arg8 : Memref sig .tc .vmem S1x192 .f32) (harg8 : arg8.IsWhole) (arg9 : Memref sig .tc .vmem S21x192 .f32) (harg9 : arg9.IsWhole) (arg10 : Memref sig .tc .vmem S3x192 .f32) (harg10 : arg10.IsWhole) (arg11 : Memref sig .tc .vmem S3x192 .f32) (harg11 : arg11.IsWhole) (x0 : Vec F S256x21x3 .f32) (x1 : Vec F S3x192x384 .f32) (x2 : Vec F S3x192 .f32) (x3 : Vec F S3x96 .f32) (x4 : Vec F S3x96 .f32) (x5 : Vec F S3x1 .f32) (x6 : Vec F S3x192 .f32) (x7 : Vec F S1x192 .f32) (x8 : Vec F S21x192 .f32) (x9 : Vec F S3x192 .f32) (x10 : Vec F S3x192 .f32) :
    kernelRun0_A.sl.r_17 (F := F) c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer 1 (kernelRun0_A.sl.v470 (F := F) c arg2 harg2 x1) (kernelRun0_A.sl.r_2 (F := F) c arg3 harg3 x2) (kernelRun0_A.sl.r_3 (F := F) c arg4 harg4 x3) (kernelRun0_A.sl.v474 (F := F) c arg5 harg5 x4) (pick (kernelRun0_A.sl.r_4 (F := F) c arg6 harg6 x5) 1) (kernelRun0_A.sl.r_5 (F := F) c arg10 harg10 x9) (kernelRun0_A.sl.r_6 (F := F) c arg11 harg11 x10) (kernelRun0_A.sl.v1883 (F := F) c arg1 harg1 arg2 harg2 arg3 harg3 arg4 harg4 arg5 harg5 arg6 harg6 arg7 harg7 arg8 harg8 arg9 harg9 arg10 harg10 arg11 harg11 x0 x1 x2 x3 x4 x5 x6 x7 x8 x9 x10) := by
  rfl

/-- The block of logits, as the run names it. -/
theorem run_head (c : Dev nD) (arg1 : Memref sig .tc .vmem S256x21x3 .f32) (harg1 : arg1.IsWhole) (arg2 : Memref sig .tc .vmem S3x192x384 .f32) (harg2 : arg2.IsWhole) (arg3 : Memref sig .tc .vmem S3x192 .f32) (harg3 : arg3.IsWhole) (arg4 : Memref sig .tc .vmem S3x96 .f32) (harg4 : arg4.IsWhole) (arg5 : Memref sig .tc .vmem S3x96 .f32) (harg5 : arg5.IsWhole) (arg6 : Memref sig .tc .vmem S3x1 .f32) (harg6 : arg6.IsWhole) (arg7 : Memref sig .tc .vmem S3x192 .f32) (harg7 : arg7.IsWhole) (arg8 : Memref sig .tc .vmem S1x192 .f32) (harg8 : arg8.IsWhole) (arg9 : Memref sig .tc .vmem S21x192 .f32) (harg9 : arg9.IsWhole) (arg10 : Memref sig .tc .vmem S3x192 .f32) (harg10 : arg10.IsWhole) (arg11 : Memref sig .tc .vmem S3x192 .f32) (harg11 : arg11.IsWhole) (arg12 : Memref sig .tc .vmem S1x192 .f32) (harg12 : arg12.IsWhole) (arg13 : Memref sig .tc .vmem S1x192 .f32) (harg13 : arg13.IsWhole) (arg14 : Memref sig .tc .vmem S192x7 .f32) (harg14 : arg14.IsWhole) (x0 : Vec F S256x21x3 .f32) (x1 : Vec F S3x192x384 .f32) (x2 : Vec F S3x192 .f32) (x3 : Vec F S3x96 .f32) (x4 : Vec F S3x96 .f32) (x5 : Vec F S3x1 .f32) (x6 : Vec F S3x192 .f32) (x7 : Vec F S1x192 .f32) (x8 : Vec F S21x192 .f32) (x9 : Vec F S3x192 .f32) (x10 : Vec F S3x192 .f32) (x11 : Vec F S1x192 .f32) (x12 : Vec F S1x192 .f32) (x13 : Vec F S192x7 .f32) (arg15 : Memref sig .tc .vmem S1x7 .f32) (harg15 : arg15.IsWhole) (x14 : Vec F S1x7 .f32) :
    k0_pay1 (kernelRun0_A.sl.r_129 (F := F) c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (View.readAt (Elt F) arg15.view (Rect.unit ![0, 0] S1x7.size Cert.KernelIdeal.Gen.facts.inb_S1x7_S1x7_0_0).toLoadRect (harg15.unread x14))
      = head (layer 2 (kernelRun0_A.sl.v470 (F := F) c arg2 harg2 x1) (kernelRun0_A.sl.r_2 (F := F) c arg3 harg3 x2) (kernelRun0_A.sl.r_3 (F := F) c arg4 harg4 x3) (kernelRun0_A.sl.v474 (F := F) c arg5 harg5 x4) (pick (kernelRun0_A.sl.r_4 (F := F) c arg6 harg6 x5) 2) (kernelRun0_A.sl.r_5 (F := F) c arg10 harg10 x9) (kernelRun0_A.sl.r_6 (F := F) c arg11 harg11 x10) (kernelRun0_A.sl.r_17 (F := F) c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.r_125 (F := F) c arg12 harg12 x11) (kernelRun0_A.sl.r_126 (F := F) c arg13 harg13 x12) (View.readAt (Elt F) arg14.view (Rect.unit ![0, 0] S192x7.size Cert.KernelIdeal.Gen.facts.inb_S192x7_S192x7_0_0).toLoadRect (harg14.unread x13))
        (shapeCast S1x7 (View.readAt (Elt F) arg15.view (Rect.unit ![0, 0] S1x7.size Cert.KernelIdeal.Gen.facts.inb_S1x7_S1x7_0_0).toLoadRect (harg15.unread x14)) Cert.KernelIdeal.Gen.facts.shapeCasts_S1x7_S1x7) := by
  rfl

/-- A load of a whole two-axis buffer reads what the buffer holds. -/
theorem load2 {sp : Space} {a b : Nat} (m : Memref sig .tc sp (⟨2, ![a, b]⟩ : Shape) .f32) (h : m.IsWhole)
    (inb : ∀ k, (![0, 0] : Fin 2 → Nat) k + (⟨2, ![a, b]⟩ : Shape).size k ≤ (⟨2, ![a, b]⟩ : Shape).size k)
    (x : Vec F (⟨2, ![a, b]⟩ : Shape) .f32) :
    View.readAt (Elt F) m.view (Rect.unit ![0, 0] (⟨2, ![a, b]⟩ : Shape).size inb).toLoadRect (h.unread x) = x := by
  rw [View.readAt_eq_ld, h.read_unread]
  exact View.ld_unit_zero (by funext k; fin_cases k <;> rfl) inb x

/-- A load of a whole three-axis buffer reads what the buffer holds. -/
theorem load3 {sp : Space} {a b d : Nat} (m : Memref sig .tc sp (⟨3, ![a, b, d]⟩ : Shape) .f32) (h : m.IsWhole)
    (inb : ∀ k, (![0, 0, 0] : Fin 3 → Nat) k + (⟨3, ![a, b, d]⟩ : Shape).size k ≤ (⟨3, ![a, b, d]⟩ : Shape).size k)
    (x : Vec F (⟨3, ![a, b, d]⟩ : Shape) .f32) :
    View.readAt (Elt F) m.view (Rect.unit ![0, 0, 0] (⟨3, ![a, b, d]⟩ : Shape).size inb).toLoadRect (h.unread x) = x := by
  rw [View.readAt_eq_ld, h.read_unread]
  exact View.ld_unit_zero (by funext k; fin_cases k <;> rfl) inb x

/-- A load of the whole block of coordinates through its flat view reads the block with its landmarks side by side. -/
theorem loadX (m : Memref sig .tc .vmem S256x21x3 .f32) (h : m.IsWhole)
    (inb : ∀ a, (![0, 0] : Fin 2 → Nat) a + S256x63.size a ≤ S256x63.size a) (x : Vec F S256x21x3 .f32) :
    View.readAt (Elt F) (m.view.reshape S256x63 Cert.KernelIdeal.Gen.facts.reshapes_S256x21x3_S256x63.1)
      (Rect.unit ![0, 0] S256x63.size inb).toLoadRect (h.unread x) = flat x := by
  rw [View.readAt_eq_ld]
  refine (View.ld_unit_zero (by funext k; fin_cases k <;> rfl) inb _).trans ?_
  funext y
  show m.view.read (Elt F) (h.unread x) (Shape.reshapeEquiv _ y) = _
  rw [h.read_unread]
  rfl

/-- What the run leaves in the output block is `net` of the blocks. -/
theorem out_eq (c : Dev nD) (i : grid0.Coords) (arg1 : Memref sig .tc .vmem S256x21x3 .f32) (harg1 : arg1.IsWhole) (arg2 : Memref sig .tc .vmem S3x192x384 .f32) (harg2 : arg2.IsWhole) (arg3 : Memref sig .tc .vmem S3x192 .f32) (harg3 : arg3.IsWhole) (arg4 : Memref sig .tc .vmem S3x96 .f32) (harg4 : arg4.IsWhole) (arg5 : Memref sig .tc .vmem S3x96 .f32) (harg5 : arg5.IsWhole) (arg6 : Memref sig .tc .vmem S3x1 .f32) (harg6 : arg6.IsWhole) (arg7 : Memref sig .tc .vmem S3x192 .f32) (harg7 : arg7.IsWhole) (arg8 : Memref sig .tc .vmem S1x192 .f32) (harg8 : arg8.IsWhole) (arg9 : Memref sig .tc .vmem S21x192 .f32) (harg9 : arg9.IsWhole) (arg10 : Memref sig .tc .vmem S3x192 .f32) (harg10 : arg10.IsWhole) (arg11 : Memref sig .tc .vmem S3x192 .f32) (harg11 : arg11.IsWhole) (arg12 : Memref sig .tc .vmem S1x192 .f32) (harg12 : arg12.IsWhole) (arg13 : Memref sig .tc .vmem S1x192 .f32) (harg13 : arg13.IsWhole) (arg14 : Memref sig .tc .vmem S192x7 .f32) (harg14 : arg14.IsWhole) (arg15 : Memref sig .tc .vmem S1x7 .f32) (harg15 : arg15.IsWhole) (arg16 : Memref sig .tc .vmem S256x7 .f32) (harg16 : arg16.IsWhole) (x0 : Vec F S256x21x3 .f32) (x1 : Vec F S3x192x384 .f32) (x2 : Vec F S3x192 .f32) (x3 : Vec F S3x96 .f32) (x4 : Vec F S3x96 .f32) (x5 : Vec F S3x1 .f32) (x6 : Vec F S3x192 .f32) (x7 : Vec F S1x192 .f32) (x8 : Vec F S21x192 .f32) (x9 : Vec F S3x192 .f32) (x10 : Vec F S3x192 .f32) (x11 : Vec F S1x192 .f32) (x12 : Vec F S1x192 .f32) (x13 : Vec F S192x7 .f32) (x14 : Vec F S1x7 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = net (flat x0) x1 x2 x3 x4 x5 x6 x7 x8 x9 x10 x11 x12 x13 x14 := by
  have e7 := load2 arg7 harg7 Cert.KernelIdeal.Gen.facts.inb_S3x192_S3x192_0_0 x6
  have e14 := load2 arg14 harg14 Cert.KernelIdeal.Gen.facts.inb_S192x7_S192x7_0_0 x13
  have e15 := load2 arg15 harg15 Cert.KernelIdeal.Gen.facts.inb_S1x7_S1x7_0_0 x14
  have v1 : kernelRun0_A.sl.v1 (F := F) c arg1 harg1 x0 = flat x0 := loadX arg1 harg1 _ x0
  have v4 : kernelRun0_A.sl.v4 (F := F) c arg8 harg8 x7 = x7 := (shapeCast_self _ _).trans (load2 arg8 harg8 _ x7)
  have r1 : kernelRun0_A.sl.r_1 (F := F) c arg9 harg9 x8 = x8 := load2 arg9 harg9 _ x8
  have v470 : kernelRun0_A.sl.v470 (F := F) c arg2 harg2 x1 = x1 := (shapeCast_self _ _).trans (load3 arg2 harg2 _ x1)
  have v474 : kernelRun0_A.sl.v474 (F := F) c arg5 harg5 x4 = x4 := (shapeCast_self _ _).trans (load2 arg5 harg5 _ x4)
  have r2 : kernelRun0_A.sl.r_2 (F := F) c arg3 harg3 x2 = x2 := load2 arg3 harg3 _ x2
  have r3 : kernelRun0_A.sl.r_3 (F := F) c arg4 harg4 x3 = x3 := load2 arg4 harg4 _ x3
  have r4 : kernelRun0_A.sl.r_5 (F := F) c arg10 harg10 x9 = x9 := load2 arg10 harg10 _ x9
  have r5 : kernelRun0_A.sl.r_6 (F := F) c arg11 harg11 x10 = x10 := load2 arg11 harg11 _ x10
  have rb : kernelRun0_A.sl.r_4 (F := F) c arg6 harg6 x5 = x5 := load2 arg6 harg6 _ x5
  have r128 : kernelRun0_A.sl.r_125 (F := F) c arg12 harg12 x11 = x11 := (shapeCast_self _ _).trans (load2 arg12 harg12 _ x11)
  have r129 : kernelRun0_A.sl.r_126 (F := F) c arg13 harg13 x12 = x12 := (shapeCast_self _ _).trans (load2 arg13 harg13 _ x12)
  unfold out0_A_15
  rw [View.read_writes_junk_eq_canon]
  refine (View.canon_unit_zero (Val := Elt F) (S := S256x7) (e := .f32) (off := ![0, 0]) (by funext k; fin_cases k <;> rfl) Cert.KernelIdeal.Gen.facts.inb_S256x7_S256x7_0_0
    (k0_pay1 (kernelRun0_A.sl.r_129 (F := F) c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (View.readAt (Elt F) arg15.view (Rect.unit ![0, 0] S1x7.size Cert.KernelIdeal.Gen.facts.inb_S1x7_S1x7_0_0).toLoadRect (harg15.unread x14)))).trans ?_
  rw [run_head, run_layer1, run_layer0, run_emb, e7, e14, e15, v1, v4, r1, v470, v474, r2, r3, r4, r5, rb, pick_eq, pick_eq, pick_eq, r128, r129]
  exact congrArg (head _ x11 x12 x13) (shapeCast_self (s := S1x7) x14 _)

end Cert.Net

end
-- ==== Proof.Math.lean ====
/- The network over the extended reals, one batch row at a time: a state is 21 landmarks of 192 numbers. Both programs
   are read down to these functions. -/
module

public import proofs.«01_k».proof.Proof.Net

@[expose] public section

noncomputable section

namespace Cert.Math

open Idealize.ShloMosaic Cert.Net

/-- The mean of 192 numbers. -/
def mean (v : Fin 192 → EReal) : EReal := Ideal.div (∑ k, v k) (Ideal.ofBits .f32 0x43400000#32)

/-- The variance of 192 numbers. -/
def var (v : Fin 192 → EReal) : EReal := mean fun k => (v k - mean v) * (v k - mean v)

/-- The layer normalization of 192 numbers, with gain `g` and offset `b`. -/
def norm (g b v : Fin 192 → EReal) (j : Fin 192) : EReal :=
  (v j - mean v) * Ideal.rsqrt (var v + Ideal.ofBits .f32 0x3727C5AC#32) * g j + b j

/-- The activation `u (1 + erf (u / √2)) / 2`. -/
def act (u : EReal) : EReal :=
  Ideal.ofBits .f32 0x3F000000#32 * u * (1 + Ideal.erf (u * Ideal.ofBits .f32 0x3F3504F3#32))

/-- The parameters of one layer: the gain `g` and offset `b` of its normalization, the value weights `wv` and offset
    `bv`, the gate's weights on the source `ws` and on the target `wd` with the offset `bg`, and the gate's last
    weights `wg` and offset `b2`. -/
structure Par where
  g : Fin 192 → EReal
  b : Fin 192 → EReal
  wv : Fin 192 → Fin 192 → EReal
  bv : Fin 192 → EReal
  ws : Fin 192 → Fin 96 → EReal
  wd : Fin 192 → Fin 96 → EReal
  bg : Fin 96 → EReal
  wg : Fin 96 → EReal
  b2 : EReal

/-- The value of a normalized source `x`. -/
def value (P : Par) (x : Fin 192 → EReal) (j : Fin 192) : EReal := (∑ k, x k * P.wv k j) + P.bv j

/-- The gate's hidden unit `m` before the activation, on an edge from `x` to `y`. -/
def hidden (P : Par) (x y : Fin 192 → EReal) (m : Fin 96) : EReal :=
  ((∑ k, x k * P.ws k m) + P.bg m) + ∑ k, y k * P.wd k m

/-- The gate of an edge from `x` to `y`. -/
def gate (P : Par) (x y : Fin 192 → EReal) : EReal :=
  Ideal.logistic ((∑ m, act (hidden P x y m) * P.wg m) + P.b2)

/-- The message on an edge from `x` to `y`. -/
def msg (P : Par) (x y : Fin 192 → EReal) (j : Fin 192) : EReal := gate P x y * value P x j

/-- One layer of a state: each landmark gets the messages along the edges into it. -/
def layer (P : Par) (H : Fin 21 → Fin 192 → EReal) (d : Fin 21) (j : Fin 192) : EReal :=
  H d j + (srcs d).foldl (fun acc s => acc + msg P (norm P.g P.b (H s)) (norm P.g P.b (H d)) j)
    (msg P (norm P.g P.b (H (src0 d))) (norm P.g P.b (H d)) j)

/-- The embedding of the 63 coordinates `x`. -/
def emb (x : Fin 63 → EReal) (win : Fin 3 → Fin 192 → EReal) (bin : Fin 192 → EReal) (je : Fin 21 → Fin 192 → EReal)
    (l : Fin 21) (j : Fin 192) : EReal :=
  x ⟨3 * l.val, by omega⟩ * win 0 j + x ⟨3 * l.val + 1, by omega⟩ * win 1 j + x ⟨3 * l.val + 2, by omega⟩ * win 2 j + bin j + je l j

/-- The head: the mean of the normalized landmarks, times the classifier, plus its offset. -/
def head (g b : Fin 192 → EReal) (wc : Fin 192 → Fin 7 → EReal) (bc : Fin 7 → EReal) (H : Fin 21 → Fin 192 → EReal)
    (c : Fin 7) : EReal :=
  (∑ k, (∑ l, norm g b (H l) k) * ((1 / 21 : ℝ) : EReal) * wc k c) + bc c

/-- The logits of one batch row `x`, with layer parameters `P`. -/
def net (x : Fin 63 → EReal) (win : Fin 3 → Fin 192 → EReal) (bin : Fin 192 → EReal) (je : Fin 21 → Fin 192 → EReal)
    (P : Fin 3 → Par) (g b : Fin 192 → EReal) (wc : Fin 192 → Fin 7 → EReal) (bc : Fin 7 → EReal) (c : Fin 7) : EReal :=
  head g b wc bc (layer (P 2) (layer (P 1) (layer (P 0) (emb x win bin je)))) c

/-- The normalization by dividing by the square root is the one by multiplying with its inverse, because the variance
    plus a positive number is positive. -/
theorem div_sqrt (x v : EReal) (hv : 0 < v) : Ideal.div x (Ideal.sqrt v) = x * Ideal.rsqrt v := by
  induction v with
  | bot => simp at hv
  | top =>
    show Ideal.div x ⊤ = x * 0
    rw [Ideal.div, if_neg EReal.top_ne_zero, EReal.inv_top]
  | coe r =>
    have hr : 0 < r := by exact_mod_cast hv
    have hs : 0 < Real.sqrt r := Real.sqrt_pos.2 hr
    have e : ((Real.sqrt r : ℝ) : EReal) ≠ 0 := by exact_mod_cast hs.ne'
    rw [Ideal.rsqrt_coe, if_neg hr.not_gt, if_neg hr.ne']
    show Ideal.div x (if r < 0 then ⊥ else ((Real.sqrt r : ℝ) : EReal)) = _
    rw [if_neg hr.not_gt, Ideal.div, if_neg e, EReal.coe_inv]

/-- A square is not negative. -/
theorem sq_nonneg' (x : EReal) : 0 ≤ x * x := by
  rcases le_total 0 x with h | h
  · exact mul_nonneg h h
  · rw [← neg_mul_neg]; exact mul_nonneg (EReal.neg_nonneg.2 h) (EReal.neg_nonneg.2 h)

/-- The number of columns, 192, as the constant of both programs. -/
theorem c192 : Ideal.ofBits .f32 0x43400000#32 = ((192 : ℝ) : EReal) := by
  simp [Ideal.ofBits, Ideal.ieee]; rw [← EReal.coe_mul]; norm_num

/-- The number of landmarks, 21, as the reference's constant. -/
theorem c21 : Ideal.ofBits .f32 0x41A80000#32 = ((21 : ℝ) : EReal) := by
  simp [Ideal.ofBits, Ideal.ieee]; rw [← EReal.coe_mul]; norm_num

/-- The small constant of the normalization is positive. -/
theorem eps_pos : 0 < Ideal.ofBits .f32 0x3727C5AC#32 := by
  simp [Ideal.ofBits, Ideal.ieee]; rw [← EReal.coe_mul]; exact_mod_cast (by norm_num)

/-- Dividing by 21 is multiplying with 1/21. -/
theorem div21 (x : EReal) : Ideal.div x (Ideal.ofBits .f32 0x41A80000#32) = x * ((1 / 21 : ℝ) : EReal) := by
  have e : ((21 : ℝ) : EReal) ≠ 0 := by exact_mod_cast (by norm_num : (21 : ℝ) ≠ 0)
  rw [c21, Ideal.div, if_neg e, ← EReal.coe_inv, one_div]

/-- The variance plus the small constant is positive. -/
theorem spread_pos (v : Fin 192 → EReal) : 0 < var v + Ideal.ofBits .f32 0x3727C5AC#32 := by
  have e : ((192 : ℝ) : EReal) ≠ 0 := by exact_mod_cast (by norm_num : (192 : ℝ) ≠ 0)
  have h0 : 0 ≤ var v := by
    unfold var mean
    rw [c192, Ideal.div, if_neg e, ← EReal.coe_inv]
    refine mul_nonneg (Finset.sum_nonneg fun k _ => sq_nonneg' _) ?_
    exact_mod_cast (by norm_num : (0 : ℝ) ≤ (192 : ℝ)⁻¹)
  exact lt_of_lt_of_le eps_pos (le_add_of_nonneg_left h0)

/-- Adding a list's terms one after another is adding their sum. -/
theorem foldl_sum {α : Type} (f : α → EReal) (l : List α) (a : EReal) :
    l.foldl (fun acc s => acc + f s) a = a + (l.map f).sum := by
  induction l generalizing a with
  | nil => simp
  | cons s l ih => rw [List.foldl_cons, ih, List.map_cons, List.sum_cons, add_assoc]

end Cert.Math

end
-- ==== Proof.Rows.lean ====
/- The kernel's body read one batch row at a time: row `r` of a block is the network of `Cert.Math` on that row. -/
module

public import proofs.«01_k».proof.Proof.Math
public import Idealize.ShloMosaic.Lib.Pipeline.Value

@[expose] public section

set_option maxRecDepth 16384

noncomputable section

namespace Cert.Net

open Idealize.ShloMosaic Cert.KernelIdeal

/-- The row of a hidden state that holds landmark `l` of batch row `r`. -/
def pos (l : Fin 21) (r : Fin 256) : Fin 5376 := ⟨256 * l.val + r.val, by omega⟩

/-- Block `l` of a stack stands on the rows of landmark `l`. -/
theorem stack_at (f : Fin 21 → FVec Ideal S256x192 .f32) (l : Fin 21) (r : Fin 256) (j : Fin 192) :
    stack f (ix2 (pos l r) j) = f l (ix2 r j) := by
  unfold stack
  refine concatenate_ofFn_apply (s₁ := S256x192) (t := S5376x192) 0 f _ rfl 256 rfl _ l ?_ _ ?_ ?_
  · show (256 * l.val + r.val) / 256 = l.val
    omega
  · show r.val = (256 * l.val + r.val) % 256
    omega
  · intro b hb
    match b with
    | ⟨0, _⟩ => exact absurd rfl hb
    | ⟨1, _⟩ => rfl

/-- A normalized state, at a row. -/
theorem norm_at (h : FVec Ideal S5376x192 .f32) (g b : FVec Ideal S1x192 .f32) (i : Fin 5376) (j : Fin 192) :
    norm h g b (ix2 i j) = Math.norm (fun k => g (ix2 0 k)) (fun k => b (ix2 0 k)) (fun k => h (ix2 i k)) j := by
  pointwise [norm, spread, centre, mean, Math.norm, Math.var, Math.mean]

/-- Row `k` of three, at a column. -/
theorem row3_at (w : FVec Ideal S3x192 .f32) (k : Fin 3) (j : Fin 192) : row3 w k (ix2 0 j) = w (ix2 k j) := by
  pointwise [row3]

/-- Row `k` of three, at a column. -/
theorem row3g_at (w : FVec Ideal S3x96 .f32) (k : Fin 3) (j : Fin 96) : row3g w k (ix2 0 j) = w (ix2 k j) := by
  pointwise [row3g]

/-- The embedding of a landmark, at a batch row. -/
theorem embRow_at (x : FVec Ideal S256x63 .f32) (win : FVec Ideal S3x192 .f32) (bin : FVec Ideal S1x192 .f32)
    (je : FVec Ideal S21x192 .f32) (l : Fin 21) (r : Fin 256) (j : Fin 192) :
    embRow x win bin je l (ix2 r j) = Math.emb (fun q => x (ix2 r q)) (fun i k => win (ix2 i k)) (fun k => bin (ix2 0 k))
      (fun l k => je (ix2 l k)) l j := by
  pointwise [embRow, embTerm, row3, Math.emb]

/-- The product with the three weight matrices, at a row and a column. -/
theorem proj_at (xn : FVec Ideal S5376x192 .f32) (w : FVec Ideal S3x192x384 .f32) (k : Fin 3) (i : Fin 5376) (c : Fin 384) :
    proj xn w k (ix2 i c) = ∑ q, xn (ix2 i q) * w (ix3 k q c) := by
  pointwise [proj]

/-- The values, at a row. -/
theorem vals_at (p : FVec Ideal S5376x384 .f32) (bv : FVec Ideal S1x192 .f32) (i : Fin 5376) (j : Fin 192) :
    vals p bv (ix2 i j) = p (ix2 i ⟨j.val, by omega⟩) + bv (ix2 0 j) := by
  pointwise [vals]

/-- The gate's part from the source, at a row. -/
theorem gsrc_at (p : FVec Ideal S5376x384 .f32) (bg : FVec Ideal S1x96 .f32) (i : Fin 5376) (m : Fin 96) :
    gsrc p bg (ix2 i m) = p (ix2 i ⟨192 + m.val, by omega⟩) + bg (ix2 0 m) := by
  pointwise [gsrc]

/-- The gate's part from the target, at a row. -/
theorem gdst_at (p : FVec Ideal S5376x384 .f32) (i : Fin 5376) (m : Fin 96) :
    gdst p (ix2 i m) = p (ix2 i ⟨288 + m.val, by omega⟩) := by
  pointwise [gdst]

/-- The gate's hidden units on an edge, at a batch row. -/
theorem edge_at (a1 a2 : FVec Ideal S5376x96 .f32) (s d : Fin 21) (r : Fin 256) (m : Fin 96) :
    edge a1 a2 s d (ix2 r m) = a1 (ix2 (pos s r) m) + a2 (ix2 (pos d r) m) := by
  pointwise [edge, pos]

/-- The gate of an edge, at a batch row. -/
theorem gate_at (u : FVec Ideal S256x96 .f32) (w2 : FVec Ideal S1x96 .f32) (b2 : Ideal .f32) (r : Fin 256) :
    gate u w2 b2 (ix2 r 0) = Ideal.logistic ((∑ m, Math.act (u (ix2 r m)) * w2 (ix2 0 m)) + b2) := by
  pointwise [gate, act, Math.act]
  rfl

/-- The message on an edge, at a batch row. -/
theorem msg_at (v : FVec Ideal S5376x192 .f32) (a1 a2 : FVec Ideal S5376x96 .f32) (w2 : FVec Ideal S1x96 .f32) (b2 : Ideal .f32)
    (s d : Fin 21) (r : Fin 256) (j : Fin 192) :
    msg v a1 a2 w2 b2 s d (ix2 r j) = gate (edge a1 a2 s d) w2 b2 (ix2 r 0) * v (ix2 (pos s r) j) := by
  pointwise [msg, pos]

/-- The state of batch row `r`: its 21 landmarks. -/
def rows (h : FVec Ideal S5376x192 .f32) (r : Fin 256) (l : Fin 21) (j : Fin 192) : EReal := h (ix2 (pos l r) j)

/-- The parameters of layer `k`, from the kernel's blocks: the three weight matrices stand side by side in `w`. -/
def par (k : Fin 3) (w : FVec Ideal S3x192x384 .f32) (bv : FVec Ideal S3x192 .f32) (bg wg : FVec Ideal S3x96 .f32) (b2 : Ideal .f32)
    (g b : FVec Ideal S3x192 .f32) : Math.Par where
  g j := g (ix2 k j)
  b j := b (ix2 k j)
  wv q j := w (ix3 k q ⟨j.val, by omega⟩)
  bv j := bv (ix2 k j)
  ws q m := w (ix3 k q ⟨192 + m.val, by omega⟩)
  wd q m := w (ix3 k q ⟨288 + m.val, by omega⟩)
  bg m := bg (ix2 k m)
  wg m := wg (ix2 k m)
  b2 := b2

/-- The sum of the messages into a landmark, at an index. -/
theorem agg_at (m : Fin 21 → Fin 21 → FVec Ideal S256x192 .f32) (d : Fin 21) (i : S256x192.Idx) :
    agg m d i = (srcs d).foldl (fun acc s => acc + m s d i) (m (src0 d) d i) := by
  unfold agg
  generalize m (src0 d) d = a
  induction srcs d generalizing a with
  | nil => rfl
  | cons s l ih => exact ih _

/-- A message of a layer, at a batch row. -/
theorem layer_msg (k : Fin 3) (w : FVec Ideal S3x192x384 .f32) (bv : FVec Ideal S3x192 .f32) (bg wg : FVec Ideal S3x96 .f32)
    (b2 : Ideal .f32) (g b : FVec Ideal S3x192 .f32) (h : FVec Ideal S5376x192 .f32) (r : Fin 256) (s d : Fin 21) (j : Fin 192) :
    msg (vals (proj (norm h (row3 g k) (row3 b k)) w k) (row3 bv k))
        (gsrc (proj (norm h (row3 g k) (row3 b k)) w k) (row3g bg k)) (gdst (proj (norm h (row3 g k) (row3 b k)) w k))
        (row3g wg k) b2 s d (ix2 r j)
      = Math.msg (par k w bv bg wg b2 g b) (Math.norm (par k w bv bg wg b2 g b).g (par k w bv bg wg b2 g b).b (rows h r s))
        (Math.norm (par k w bv bg wg b2 g b).g (par k w bv bg wg b2 g b).b (rows h r d)) j := by
  simp only [msg_at, gate_at, edge_at, vals_at, gsrc_at, gdst_at, proj_at, norm_at, row3_at, row3g_at]
  rfl

/-- A layer is the layer of `Cert.Math`, at a batch row. -/
theorem layer_at (k : Fin 3) (w : FVec Ideal S3x192x384 .f32) (bv : FVec Ideal S3x192 .f32) (bg wg : FVec Ideal S3x96 .f32)
    (b2 : Ideal .f32) (g b : FVec Ideal S3x192 .f32) (h : FVec Ideal S5376x192 .f32) (r : Fin 256) :
    rows (layer k w bv bg wg b2 g b h) r = Math.layer (par k w bv bg wg b2 g b) (rows h r) := by
  funext d j
  unfold layer layer' Math.layer
  show h (ix2 (pos d r) j) + stack _ (ix2 (pos d r) j) = _
  rw [stack_at, agg_at]
  simp only [layer_msg]
  rfl

/-- The first hidden state, at a batch row. -/
theorem emb_at (x : FVec Ideal S256x63 .f32) (win : FVec Ideal S3x192 .f32) (bin : FVec Ideal S1x192 .f32)
    (je : FVec Ideal S21x192 .f32) (r : Fin 256) :
    rows (emb x win bin je) r = Math.emb (fun q => x (ix2 r q)) (fun i k => win (ix2 i k)) (fun k => bin (ix2 0 k))
      (fun l k => je (ix2 l k)) := by
  funext l j
  unfold rows emb
  rw [stack_at, embRow_at]

/-- The sum of the landmarks, at a batch row. -/
theorem total_at (y : FVec Ideal S5376x192 .f32) (r : Fin 256) (j : Fin 192) : total y (ix2 r j) = ∑ l, y (ix2 (pos l r) j) := by
  have e : ∀ l : Fin 21, extractStridedSlice S256x192 ![256 * l.val, 0] y (slices192 l) (ix2 r j) = y (ix2 (pos l r) j) := fun l => by
    pointwise [pos]
  have f : ∀ (L : List (Fin 20)) (a : FVec Ideal S256x192 .f32),
      L.foldl (fun acc l => addf acc (extractStridedSlice S256x192 ![256 * l.succ.val, 0] y (slices192 l.succ))) a (ix2 r j)
        = L.foldl (fun acc l => acc + y (ix2 (pos l.succ r) j)) (a (ix2 r j)) := fun L => by
    induction L with
    | nil => exact fun a => rfl
    | cons l L ih =>
      intro a
      rw [List.foldl_cons, List.foldl_cons, ih]
      exact congrArg (fun z => L.foldl _ (a (ix2 r j) + z)) (e l.succ)
  unfold total
  rw [f, e, Math.foldl_sum (fun l : Fin 20 => y (ix2 (pos l.succ r) j)), Fin.sum_univ_succ, Fin.sum_univ_def]

/-- The head, at a batch row. -/
theorem head_at (h : FVec Ideal S5376x192 .f32) (g b : FVec Ideal S1x192 .f32) (wc : FVec Ideal S192x7 .f32) (bc : FVec Ideal S1x7 .f32)
    (r : Fin 256) (c : Fin 7) :
    head h g b wc bc (ix2 r c) = Math.head (fun k => g (ix2 0 k)) (fun k => b (ix2 0 k)) (fun k c => wc (ix2 k c))
      (fun c => bc (ix2 0 c)) (rows h r) c := by
  pointwise [head]
  simp only [total_at, norm_at]
  rfl

/-- The parameters of layer `k`, from all the blocks. -/
def pars (k : Fin 3) (x1 : FVec Ideal S3x192x384 .f32) (x2 : FVec Ideal S3x192 .f32) (x3 x4 : FVec Ideal S3x96 .f32)
    (x5 : FVec Ideal S3x1 .f32) (x9 x10 : FVec Ideal S3x192 .f32) : Math.Par :=
  par k x1 x2 x3 x4 (x5 (ix2 k 0)) x9 x10

/-- The kernel's body, at a batch row. -/
theorem net_at (x0 : FVec Ideal S256x63 .f32) (x1 : FVec Ideal S3x192x384 .f32) (x2 : FVec Ideal S3x192 .f32) (x3 x4 : FVec Ideal S3x96 .f32)
    (x5 : FVec Ideal S3x1 .f32) (x6 : FVec Ideal S3x192 .f32) (x7 : FVec Ideal S1x192 .f32) (x8 : FVec Ideal S21x192 .f32)
    (x9 x10 : FVec Ideal S3x192 .f32) (x11 x12 : FVec Ideal S1x192 .f32) (x13 : FVec Ideal S192x7 .f32) (x14 : FVec Ideal S1x7 .f32)
    (r : Fin 256) (c : Fin 7) :
    net x0 x1 x2 x3 x4 x5 x6 x7 x8 x9 x10 x11 x12 x13 x14 (ix2 r c)
      = Math.net (fun q => x0 (ix2 r q)) (fun i k => x6 (ix2 i k)) (fun k => x7 (ix2 0 k)) (fun l k => x8 (ix2 l k))
        (fun k => pars k x1 x2 x3 x4 x5 x9 x10) (fun k => x11 (ix2 0 k)) (fun k => x12 (ix2 0 k)) (fun k c => x13 (ix2 k c))
        (fun c => x14 (ix2 0 c)) c := by
  unfold net
  rw [head_at, layer_at, layer_at, layer_at, emb_at]
  rfl

end Cert.Net

end
-- ==== Proof.Logits.lean ====
/- The array of logits as a function of the sixteen arguments: the network of `Cert.Math` on each batch row. -/
module

public import proofs.«01_k».proof.Proof.Rows

@[expose] public section

noncomputable section

namespace Cert.Net

open Idealize.ShloMosaic Cert.KernelIdeal

/-- The parameters of layer `k`, from the arguments. -/
def argPar (a4 a5 : FVec Ideal S3x192 .f32) (a6 : FVec Ideal S3x192x192 .f32) (a7 : FVec Ideal S3x192 .f32) (a8 : FVec Ideal S3x384x96 .f32)
    (a9 : FVec Ideal S3x96 .f32) (a10 : FVec Ideal S3x96x1 .f32) (a11 : FVec Ideal S3x1 .f32) (k : Fin 3) : Math.Par where
  g j := a4 (ix2 k j)
  b j := a5 (ix2 k j)
  wv q j := a6 (ix3 k q j)
  bv j := a7 (ix2 k j)
  ws q m := a8 (ix3 k ⟨q.val, by omega⟩ m)
  wd q m := a8 (ix3 k ⟨192 + q.val, by omega⟩ m)
  bg m := a9 (ix2 k m)
  wg m := a10 (ix3 k m 0)
  b2 := a11 (ix2 k 0)

/-- The 63 coordinates of batch row `n`. -/
def coords (a0 : FVec Ideal S4096x21x3 .f32) (n : Fin 4096) (q : Fin 63) : EReal :=
  a0 (ix3 n ⟨q.val / 3, by omega⟩ ⟨q.val % 3, by omega⟩)

/-- The logits, from the arguments. -/
def logits (a0 : FVec Ideal S4096x21x3 .f32) (a1 : FVec Ideal S3x192 .f32) (a2 : FVec Ideal S192 .f32) (a3 : FVec Ideal S21x192 .f32)
    (a4 a5 : FVec Ideal S3x192 .f32) (a6 : FVec Ideal S3x192x192 .f32) (a7 : FVec Ideal S3x192 .f32) (a8 : FVec Ideal S3x384x96 .f32)
    (a9 : FVec Ideal S3x96 .f32) (a10 : FVec Ideal S3x96x1 .f32) (a11 : FVec Ideal S3x1 .f32) (a12 a13 : FVec Ideal S192 .f32)
    (a14 : FVec Ideal S192x7 .f32) (a15 : FVec Ideal S7 .f32) : FVec Ideal S4096x7 .f32 := fun i =>
  Math.net (coords a0 (i 0)) (fun i k => a1 (ix2 i k)) (fun k => a2 (ix1 k)) (fun l k => a3 (ix2 l k))
    (argPar a4 a5 a6 a7 a8 a9 a10 a11) (fun k => a12 (ix1 k)) (fun k => a13 (ix1 k)) (fun k c => a14 (ix2 k c)) (fun c => a15 (ix1 c)) (i 1)

/-- The kernel's body on blocks that hold the arguments' entries: row `r` of its output is row `n` of the logits. -/
theorem net_logits {a0 : FVec Ideal S4096x21x3 .f32} {a1 : FVec Ideal S3x192 .f32} {a2 : FVec Ideal S192 .f32} {a3 : FVec Ideal S21x192 .f32}
    {a4 a5 : FVec Ideal S3x192 .f32} {a6 : FVec Ideal S3x192x192 .f32} {a7 : FVec Ideal S3x192 .f32} {a8 : FVec Ideal S3x384x96 .f32}
    {a9 : FVec Ideal S3x96 .f32} {a10 : FVec Ideal S3x96x1 .f32} {a11 : FVec Ideal S3x1 .f32} {a12 a13 : FVec Ideal S192 .f32}
    {a14 : FVec Ideal S192x7 .f32} {a15 : FVec Ideal S7 .f32}
    {x0 : FVec Ideal S256x63 .f32} {x1 : FVec Ideal S3x192x384 .f32} {x2 : FVec Ideal S3x192 .f32} {x3 x4 : FVec Ideal S3x96 .f32}
    {x5 : FVec Ideal S3x1 .f32} {x6 : FVec Ideal S3x192 .f32} {x7 : FVec Ideal S1x192 .f32} {x8 : FVec Ideal S21x192 .f32}
    {x9 x10 : FVec Ideal S3x192 .f32} {x11 x12 : FVec Ideal S1x192 .f32} {x13 : FVec Ideal S192x7 .f32} {x14 : FVec Ideal S1x7 .f32}
    {n : Fin 4096} {r : Fin 256} {o : Fin 7}
    (h0 : ∀ q, x0 (ix2 r q) = coords a0 n q)
    (hv : ∀ (k : Fin 3) (q j : Fin 192), x1 (ix3 k q ⟨j.val, by omega⟩) = a6 (ix3 k q j))
    (hs : ∀ (k : Fin 3) (q : Fin 192) (j : Fin 96), x1 (ix3 k q ⟨192 + j.val, by omega⟩) = a8 (ix3 k ⟨q.val, by omega⟩ j))
    (hd : ∀ (k : Fin 3) (q : Fin 192) (j : Fin 96), x1 (ix3 k q ⟨288 + j.val, by omega⟩) = a8 (ix3 k ⟨192 + q.val, by omega⟩ j))
    (h2 : ∀ k q, x2 (ix2 k q) = a7 (ix2 k q)) (h3 : ∀ k q, x3 (ix2 k q) = a9 (ix2 k q)) (h4 : ∀ k q, x4 (ix2 k q) = a10 (ix3 k q 0))
    (h5 : ∀ k, x5 (ix2 k 0) = a11 (ix2 k 0)) (h6 : ∀ k q, x6 (ix2 k q) = a1 (ix2 k q)) (h7 : ∀ q, x7 (ix2 0 q) = a2 (ix1 q))
    (h8 : ∀ k q, x8 (ix2 k q) = a3 (ix2 k q)) (h9 : ∀ k q, x9 (ix2 k q) = a4 (ix2 k q)) (h10 : ∀ k q, x10 (ix2 k q) = a5 (ix2 k q))
    (h11 : ∀ q, x11 (ix2 0 q) = a12 (ix1 q)) (h12 : ∀ q, x12 (ix2 0 q) = a13 (ix1 q)) (h13 : ∀ k q, x13 (ix2 k q) = a14 (ix2 k q))
    (h14 : ∀ q, x14 (ix2 0 q) = a15 (ix1 q)) :
    net x0 x1 x2 x3 x4 x5 x6 x7 x8 x9 x10 x11 x12 x13 x14 (ix2 r o)
      = logits a0 a1 a2 a3 a4 a5 a6 a7 a8 a9 a10 a11 a12 a13 a14 a15 (ix2 n o) := by
  rw [net_at]
  unfold pars par
  simp only [h0, hv, hs, hd, h2, h3, h4, h5, h6, h7, h8, h9, h10, h11, h12, h13, h14]
  rfl

end Cert.Net

end
-- ==== Proof.Blocks.lean ====
/- The blocks that the kernel's grid points read, as entries of the arguments, and the array of logits that the kernel
   leaves: the network of `Cert.Math` on each batch row. -/
module

public import proofs.«01_k».proof.Proof.Body
public import proofs.«01_k».proof.Proof.Logits

@[expose] public section

set_option maxRecDepth 16384

noncomputable section

namespace Cert.Net

open Idealize.ShloMosaic Idealize.ShloMosaic.TcCoe Idealize.SL.Sem Cert.KernelIdeal Cert.KernelIdeal.Gen

variable (m : (ℓ : Loc nD τ sig) → Buf (Elt Ideal) ℓ) (c : Dev nD)

/-- The batch row that row `r` of grid point `t`'s block is. -/
def batch (t : Fin grid0.N) (r : Fin 256) : Fin 4096 := ⟨256 * t.val + r.val, by have : t.val < 16 := t.isLt; omega⟩

/-- Grid point `t` reads block `t` of the coordinates. -/
theorem idx0 : ∀ t : Fin grid0.N, win0_0.index t = ![t.val, 0, 0] := by decide +kernel
/-- Grid point `t` writes block `t` of the logits. -/
theorem idx15 : ∀ t : Fin grid0.N, win0_15.index t = ![t.val, 0] := by decide +kernel

/-- The flat block of coordinates, at an entry. -/
theorem flat_at (x : FVec Ideal S256x21x3 .f32) (r : Fin 256) (q : Fin 63) :
    flat x (ix2 r q) = x (ix3 r ⟨q.val / 3, by omega⟩ ⟨q.val % 3, by omega⟩) := by
  unfold flat
  pointwise

/-- The three weight matrices side by side, as the region sees them. -/
theorem v2_eq :
    (V m c main_v2 : FVec Ideal S3x192x384 .f32)
      = concatenate S3x192x384 2 [⟨S3x192x192, (m ((c : Thread nD τ).loc main_arg6) : FVec Ideal S3x192x192 .f32)⟩,
        ⟨S3x192x96, extractStridedSlice S3x192x96 ![0, 0, 0] (m ((c : Thread nD τ).loc main_arg8) : FVec Ideal S3x384x96 .f32) slices_S3x384x96_S3x192x96_0_0_0⟩,
        ⟨S3x192x96, extractStridedSlice S3x192x96 ![0, 192, 0] (m ((c : Thread nD τ).loc main_arg8) : FVec Ideal S3x384x96 .f32) slices_S3x384x96_S3x192x96_0_192_0⟩]
        concatenates_S3x192x192_S3x192x96_S3x192x96_S3x192x384_d2 := rfl

/-- The first 192 columns are the value weights. -/
theorem v2_value (k : Fin 3) (q : Fin 192) (j : Fin 192) :
    (V m c main_v2 : FVec Ideal S3x192x384 .f32) (ix3 k q ⟨j.val, by omega⟩)
      = (m ((c : Thread nD τ).loc main_arg6) : FVec Ideal S3x192x192 .f32) (ix3 k q j) := by
  rw [v2_eq]
  generalize (m ((c : Thread nD τ).loc main_arg6) : FVec Ideal S3x192x192 .f32) = x
  generalize (m ((c : Thread nD τ).loc main_arg8) : FVec Ideal S3x384x96 .f32) = y
  pointwise

/-- The next 96 columns are the gate's weights on the source. -/
theorem v2_src (k : Fin 3) (q : Fin 192) (j : Fin 96) :
    (V m c main_v2 : FVec Ideal S3x192x384 .f32) (ix3 k q ⟨192 + j.val, by omega⟩)
      = (m ((c : Thread nD τ).loc main_arg8) : FVec Ideal S3x384x96 .f32) (ix3 k ⟨q.val, by omega⟩ j) := by
  rw [v2_eq]
  generalize (m ((c : Thread nD τ).loc main_arg6) : FVec Ideal S3x192x192 .f32) = x
  generalize (m ((c : Thread nD τ).loc main_arg8) : FVec Ideal S3x384x96 .f32) = y
  pointwise

/-- The last 96 columns are the gate's weights on the target. -/
theorem v2_dst (k : Fin 3) (q : Fin 192) (j : Fin 96) :
    (V m c main_v2 : FVec Ideal S3x192x384 .f32) (ix3 k q ⟨288 + j.val, by omega⟩)
      = (m ((c : Thread nD τ).loc main_arg8) : FVec Ideal S3x384x96 .f32) (ix3 k ⟨192 + q.val, by omega⟩ j) := by
  rw [v2_eq]
  generalize (m ((c : Thread nD τ).loc main_arg6) : FVec Ideal S3x192x192 .f32) = x
  generalize (m ((c : Thread nD τ).loc main_arg8) : FVec Ideal S3x384x96 .f32) = y
  pointwise
  rw [dif_neg (by omega), dif_neg (by omega)]
  exact congrArg (fun l => y (ix3 k _ l)) (Fin.ext (by simp only; omega))

/-- A host reshape, at an index. -/
theorem v3_eq (k : Fin 3) (j : Fin 96) :
    (V m c main_v3 : FVec Ideal S3x96 .f32) (ix2 k j)
      = (m ((c : Thread nD τ).loc main_arg10) : FVec Ideal S3x96x1 .f32) (ix3 k j 0) := by
  entry_read
  pointwise

/-- A host reshape, at an index. -/
theorem v4_eq (j : Fin 192) :
    (V m c main_v4 : FVec Ideal S1x192 .f32) (ix2 0 j)
      = (m ((c : Thread nD τ).loc main_arg2) : FVec Ideal S192 .f32) (ix1 j) := by
  entry_read
  pointwise

/-- A host reshape, at an index. -/
theorem v5_eq (j : Fin 192) :
    (V m c main_v5 : FVec Ideal S1x192 .f32) (ix2 0 j)
      = (m ((c : Thread nD τ).loc main_arg12) : FVec Ideal S192 .f32) (ix1 j) := by
  entry_read
  pointwise

/-- A host reshape, at an index. -/
theorem v6_eq (j : Fin 192) :
    (V m c main_v6 : FVec Ideal S1x192 .f32) (ix2 0 j)
      = (m ((c : Thread nD τ).loc main_arg13) : FVec Ideal S192 .f32) (ix1 j) := by
  entry_read
  pointwise

/-- A host reshape, at an index. -/
theorem v7_eq (j : Fin 7) :
    (V m c main_v7 : FVec Ideal S1x7 .f32) (ix2 0 j)
      = (m ((c : Thread nD τ).loc main_arg15) : FVec Ideal S7 .f32) (ix1 j) := by
  entry_read
  pointwise

/-- The block of coordinates, at an entry. -/
theorem blk0 (t : Fin grid0.N) (r : Fin 256) (l : Fin 21) (k : Fin 3) :
    (iblk m c 0 t : FVec Ideal S256x21x3 .f32) (ix3 r l k)
      = (m ((c : Thread nD τ).loc main_arg0) : FVec Ideal S4096x21x3 .f32) (ix3 (batch t r) l k) := by
  blk_ext [iblk, V, idx0 t, batch]

/-- Every grid point reads the whole of operand 1. -/
theorem blk1 (t : Fin grid0.N) (k : Fin 3) (q : Fin 192) (j : Fin 384) :
    (iblk m c 1 t : FVec Ideal S3x192x384 .f32) (ix3 k q j) = (V m c main_v2 : FVec Ideal S3x192x384 .f32) (ix3 k q j) := by
  have e : ∀ t : Fin grid0.N, win0_1.index t = ![0, 0, 0] := by decide +kernel
  blk_ext [iblk, V, e t]

/-- Every grid point reads the whole of operand 2. -/
theorem blk2 (t : Fin grid0.N) (k : Fin 3) (q : Fin 192) :
    (iblk m c 2 t : FVec Ideal S3x192 .f32) (ix2 k q) = (m ((c : Thread nD τ).loc main_arg7) : FVec Ideal S3x192 .f32) (ix2 k q) := by
  have e : ∀ t : Fin grid0.N, win0_2.index t = ![0, 0] := by decide +kernel
  blk_ext [iblk, V, e t]

/-- Every grid point reads the whole of operand 3. -/
theorem blk3 (t : Fin grid0.N) (k : Fin 3) (q : Fin 96) :
    (iblk m c 3 t : FVec Ideal S3x96 .f32) (ix2 k q) = (m ((c : Thread nD τ).loc main_arg9) : FVec Ideal S3x96 .f32) (ix2 k q) := by
  have e : ∀ t : Fin grid0.N, win0_3.index t = ![0, 0] := by decide +kernel
  blk_ext [iblk, V, e t]

/-- Every grid point reads the whole of operand 4. -/
theorem blk4 (t : Fin grid0.N) (k : Fin 3) (q : Fin 96) :
    (iblk m c 4 t : FVec Ideal S3x96 .f32) (ix2 k q) = (V m c main_v3 : FVec Ideal S3x96 .f32) (ix2 k q) := by
  have e : ∀ t : Fin grid0.N, win0_4.index t = ![0, 0] := by decide +kernel
  blk_ext [iblk, V, e t]

/-- Every grid point reads the whole of operand 5. -/
theorem blk5 (t : Fin grid0.N) (k : Fin 3) (q : Fin 1) :
    (iblk m c 5 t : FVec Ideal S3x1 .f32) (ix2 k q) = (m ((c : Thread nD τ).loc main_arg11) : FVec Ideal S3x1 .f32) (ix2 k q) := by
  have e : ∀ t : Fin grid0.N, win0_5.index t = ![0, 0] := by decide +kernel
  blk_ext [iblk, V, e t]

/-- Every grid point reads the whole of operand 6. -/
theorem blk6 (t : Fin grid0.N) (k : Fin 3) (q : Fin 192) :
    (iblk m c 6 t : FVec Ideal S3x192 .f32) (ix2 k q) = (m ((c : Thread nD τ).loc main_arg1) : FVec Ideal S3x192 .f32) (ix2 k q) := by
  have e : ∀ t : Fin grid0.N, win0_6.index t = ![0, 0] := by decide +kernel
  blk_ext [iblk, V, e t]

/-- Every grid point reads the whole of operand 7. -/
theorem blk7 (t : Fin grid0.N) (k : Fin 1) (q : Fin 192) :
    (iblk m c 7 t : FVec Ideal S1x192 .f32) (ix2 k q) = (V m c main_v4 : FVec Ideal S1x192 .f32) (ix2 k q) := by
  have e : ∀ t : Fin grid0.N, win0_7.index t = ![0, 0] := by decide +kernel
  blk_ext [iblk, V, e t]

/-- Every grid point reads the whole of operand 8. -/
theorem blk8 (t : Fin grid0.N) (k : Fin 21) (q : Fin 192) :
    (iblk m c 8 t : FVec Ideal S21x192 .f32) (ix2 k q) = (m ((c : Thread nD τ).loc main_arg3) : FVec Ideal S21x192 .f32) (ix2 k q) := by
  have e : ∀ t : Fin grid0.N, win0_8.index t = ![0, 0] := by decide +kernel
  blk_ext [iblk, V, e t]

/-- Every grid point reads the whole of operand 9. -/
theorem blk9 (t : Fin grid0.N) (k : Fin 3) (q : Fin 192) :
    (iblk m c 9 t : FVec Ideal S3x192 .f32) (ix2 k q) = (m ((c : Thread nD τ).loc main_arg4) : FVec Ideal S3x192 .f32) (ix2 k q) := by
  have e : ∀ t : Fin grid0.N, win0_9.index t = ![0, 0] := by decide +kernel
  blk_ext [iblk, V, e t]

/-- Every grid point reads the whole of operand 10. -/
theorem blk10 (t : Fin grid0.N) (k : Fin 3) (q : Fin 192) :
    (iblk m c 10 t : FVec Ideal S3x192 .f32) (ix2 k q) = (m ((c : Thread nD τ).loc main_arg5) : FVec Ideal S3x192 .f32) (ix2 k q) := by
  have e : ∀ t : Fin grid0.N, win0_10.index t = ![0, 0] := by decide +kernel
  blk_ext [iblk, V, e t]

/-- Every grid point reads the whole of operand 11. -/
theorem blk11 (t : Fin grid0.N) (k : Fin 1) (q : Fin 192) :
    (iblk m c 11 t : FVec Ideal S1x192 .f32) (ix2 k q) = (V m c main_v5 : FVec Ideal S1x192 .f32) (ix2 k q) := by
  have e : ∀ t : Fin grid0.N, win0_11.index t = ![0, 0] := by decide +kernel
  blk_ext [iblk, V, e t]

/-- Every grid point reads the whole of operand 12. -/
theorem blk12 (t : Fin grid0.N) (k : Fin 1) (q : Fin 192) :
    (iblk m c 12 t : FVec Ideal S1x192 .f32) (ix2 k q) = (V m c main_v6 : FVec Ideal S1x192 .f32) (ix2 k q) := by
  have e : ∀ t : Fin grid0.N, win0_12.index t = ![0, 0] := by decide +kernel
  blk_ext [iblk, V, e t]

/-- Every grid point reads the whole of operand 13. -/
theorem blk13 (t : Fin grid0.N) (k : Fin 192) (q : Fin 7) :
    (iblk m c 13 t : FVec Ideal S192x7 .f32) (ix2 k q) = (m ((c : Thread nD τ).loc main_arg14) : FVec Ideal S192x7 .f32) (ix2 k q) := by
  have e : ∀ t : Fin grid0.N, win0_13.index t = ![0, 0] := by decide +kernel
  blk_ext [iblk, V, e t]

/-- Every grid point reads the whole of operand 14. -/
theorem blk14 (t : Fin grid0.N) (k : Fin 1) (q : Fin 7) :
    (iblk m c 14 t : FVec Ideal S1x7 .f32) (ix2 k q) = (V m c main_v7 : FVec Ideal S1x7 .f32) (ix2 k q) := by
  have e : ∀ t : Fin grid0.N, win0_14.index t = ![0, 0] := by decide +kernel
  blk_ext [iblk, V, e t]

/-- The logits, from the memory at the start. -/
def result : FVec Ideal S4096x7 .f32 :=
  logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- What grid point `t` computes for row `r` is the network on that batch row. -/
theorem block_at (t : Fin grid0.N) (r : Fin 256) (o : Fin 7) :
    net (flat (iblk m c 0 t : FVec Ideal S256x21x3 .f32)) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r o)
      = result m c (ix2 (batch t r) o) := by
  exact net_logits (fun q => (flat_at _ r q).trans (blk0 m c t r _ _))
    (fun k q j => (blk1 m c t k q _).trans (v2_value m c k q j)) (fun k q j => (blk1 m c t k q _).trans (v2_src m c k q j))
    (fun k q j => (blk1 m c t k q _).trans (v2_dst m c k q j)) (blk2 m c t) (blk3 m c t)
    (fun k j => (blk4 m c t k j).trans (v3_eq m c k j)) (fun k => blk5 m c t k 0) (blk6 m c t)
    (fun j => (blk7 m c t 0 j).trans (v4_eq m c j)) (blk8 m c t) (blk9 m c t) (blk10 m c t)
    (fun j => (blk11 m c t 0 j).trans (v5_eq m c j)) (fun j => (blk12 m c t 0 j).trans (v6_eq m c j)) (blk13 m c t)
    (fun j => (blk14 m c t 0 j).trans (v7_eq m c j))

end Cert.Net

end
-- ==== Proof.Result.lean ====
/- The array that the kernel leaves is the array of logits: the sixteen blocks cover it, and each holds the network on
   its 256 batch rows. -/
module

public import proofs.«01_k».proof.Proof.Blocks
public import proofs.«01_k».proof.Proof.Gen.KernelIdeal.Value

@[expose] public section

set_option maxRecDepth 16384

noncomputable section

namespace Cert.Net

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The kernel's result array. -/
theorem result_eq : (dats m 0 c).arrAt 15 cfg0.N = result m c := by
  refine (dats m 0 c).arrAt_eq_of_covers 15 _ (by decide +kernel) fun t hf y => ?_
  blk_simp
  rw [after0_15]
  unfold outsAt0
  rw [out_eq]
  refine (congrArg (net (F := Ideal) _ _ _ _ _ _ _ _ _ _ _ _ _ _ _) (eq_ix2 (n0 := 256) (n1 := 7) y)).trans ((block_at m c t (y 0) (y 1)).trans ?_)
  refine congrArg (result m c) (funext fun a => Fin.ext ?_)
  have e := idx15 t
  fin_cases a
  · blk_simp [e]
    show 256 * t.val + (y 0).val = t.val * 256 + (y 0).val
    omega
  · blk_simp [e]
    rfl

end Cert.Net

end
-- ==== Proof.Ref.lean ====
/- The reference, in parts: the normalization, the gate, the values and the messages of one layer, and the head, each
   at an index as the function of `Cert.Math`. -/
module

public import proofs.«01_k».proof.Proof.Math
public import proofs.«01_k».proof.Proof.Gen.ReferenceIdeal.Run

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The mean over the last axis. -/
def mean (h : FVec F S4096x21x192 .f32) : FVec F S4096x21x1 .f32 :=
  Host.divf (broadcastInDim S4096x21x1 ![0, 1] bcast_S4096x21_S4096x21x1_0_1 (Host.reduceAdd h (constant S_ .f32 0x00000000#32) reducesTo_S4096x21x192_S4096x21_d2 h_S_))
    (broadcastInDim S4096x21x1 ![] bcast_S_S4096x21x1 (constant S_ .f32 0x43400000#32))

/-- The distance from the mean. -/
def centre (h : FVec F S4096x21x192 .f32) : FVec F S4096x21x192 .f32 :=
  subf h (broadcastInDim S4096x21x192 ![0, 1, 2] bcast_S4096x21x1_S4096x21x192_0_1_2 (mean h))

/-- A parameter of 192 entries, for every landmark. -/
def wide (g : FVec F S192 .f32) : FVec F S4096x21x192 .f32 :=
  broadcastInDim S4096x21x192 ![0, 1, 2] bcast_S1x1x192_S4096x21x192_0_1_2 (broadcastInDim S1x1x192 ![2] bcast_S192_S1x1x192_2 g)

/-- The layer normalization. -/
def norm (g b : FVec F S192 .f32) (h : FVec F S4096x21x192 .f32) : FVec F S4096x21x192 .f32 :=
  addf (mulf (Host.divf (centre h) (broadcastInDim S4096x21x192 ![0, 1, 2] bcast_S4096x21x1_S4096x21x192_0_1_2 (Host.sqrt (addf (mean (mulf (centre h) (centre h))) (broadcastInDim S4096x21x1 ![] bcast_S_S4096x21x1 (constant S_ .f32 0x3727C5AC#32)))))) (wide g)) (wide b)

/-- The embedding. -/
def emb (x : FVec F S4096x21x3 .f32) (win : FVec F S3x192 .f32) (bin : FVec F S192 .f32) (je : FVec F S21x192 .f32) : FVec F S4096x21x192 .f32 :=
  addf (addf (Host.dotGeneral dot_S4096x21x3_S3x192_S4096x21x192_2_0_01_1_n_n none x win) (wide bin))
    (broadcastInDim S4096x21x192 ![0, 1, 2] bcast_S1x21x192_S4096x21x192_0_1_2 (broadcastInDim S1x21x192 ![1, 2] bcast_S21x192_S1x21x192_1_2 je))

/-- The indices of an edge list, as the column the gather takes. -/
def column (e : IVec S63 32) : IVec S63x1 32 :=
  broadcastInDim S63x1 ![0] bcast_S63_S63x1_0 (select (constantI S63 1 0#1) (addi e (broadcastInDim S63 ![] bcast_S_S63 (constantI S_ 32 21#32))) e)

/-- The landmarks' rows along an edge list. -/
def rows (e : IVec S63 32) (h : FVec F S4096x21x192 .f32) : FVec F S4096x63x192 .f32 :=
  Host.gather gather_S4096x21x192_S63x1_S4096x63x192_02_1_n_n_1_1_40961192 h (column e)

/-- The gate's hidden units before the activation. -/
def hidden (hs hd : FVec F S4096x63x192 .f32) (w : FVec F S384x96 .f32) (bg : FVec F S96 .f32) : FVec F S4096x63x96 .f32 :=
  addf (Host.dotGeneral dot_S4096x63x384_S384x96_S4096x63x96_2_0_01_1_n_n none (concatenate S4096x63x384 2 [⟨S4096x63x192, hs⟩, ⟨S4096x63x192, hd⟩] concatenates_S4096x63x192_S4096x63x192_S4096x63x384_d2) w)
    (broadcastInDim S4096x63x96 ![0, 1, 2] bcast_S1x1x96_S4096x63x96_0_1_2 (broadcastInDim S1x1x96 ![2] bcast_S96_S1x1x96_2 bg))

/-- The activation. -/
def act (u : FVec F S4096x63x96 .f32) : FVec F S4096x63x96 .f32 :=
  mulf (mulf (broadcastInDim S4096x63x96 ![] bcast_S_S4096x63x96 (constant S_ .f32 0x3F000000#32)) u)
    (Host.erfc (mulf (Host.negf u) (broadcastInDim S4096x63x96 ![] bcast_S_S4096x63x96 (constant S_ .f32 0x3F3504F3#32))))

/-- The gate. -/
def gate (u : FVec F S4096x63x96 .f32) (w : FVec F S96x1 .f32) (b : FVec F S1 .f32) : FVec F S4096x63x1 .f32 :=
  Host.divf (broadcastInDim S4096x63x1 ![] bcast_S_S4096x63x1 (constant S_ .f32 0x3F800000#32))
    (addf (broadcastInDim S4096x63x1 ![] bcast_S_S4096x63x1 (constant S_ .f32 0x3F800000#32))
      (Host.exp (Host.negf (addf (Host.dotGeneral dot_S4096x63x96_S96x1_S4096x63x1_2_0_01_1_n_n none (act u) w)
        (broadcastInDim S4096x63x1 ![0, 1, 2] bcast_S1x1x1_S4096x63x1_0_1_2 (broadcastInDim S1x1x1 ![2] bcast_S1_S1x1x1_2 b))))))

/-- The values. -/
def value (hs : FVec F S4096x63x192 .f32) (w : FVec F S192x192 .f32) (b : FVec F S192 .f32) : FVec F S4096x63x192 .f32 :=
  addf (Host.dotGeneral dot_S4096x63x192_S192x192_S4096x63x192_2_0_01_1_n_n none hs w)
    (broadcastInDim S4096x63x192 ![0, 1, 2] bcast_S1x1x192_S4096x63x192_0_1_2 (broadcastInDim S1x1x192 ![2] bcast_S192_S1x1x192_2 b))

/-- The messages. -/
def msg (g : FVec F S4096x63x1 .f32) (v : FVec F S4096x63x192 .f32) : FVec F S4096x63x192 .f32 :=
  mulf (broadcastInDim S4096x63x192 ![0, 1, 2] bcast_S4096x63x1_S4096x63x192_0_1_2 g) v

/-- The state with the messages added at the edges' targets. -/
def add (e : IVec S63 32) (h : FVec F S4096x21x192 .f32) (v : FVec F S4096x63x192 .f32) : FVec F S4096x21x192 .f32 :=
  addf h (Host.scatterAdd scatter_S4096x21x192_S63x1_S4096x63x192_02_1_1_1 (broadcastInDim S4096x21x192 ![] bcast_S_S4096x21x192 (constant S_ .f32 0x00000000#32)) (column e) v)

/-- The edges' sources. -/
def source : IVec S63 32 := fun i => lit0 (S63.rowMajor i)
/-- The edges' targets. -/
def target : IVec S63 32 := fun i => lit1 (S63.rowMajor i)

/-- One layer. -/
def layer (g b : FVec F S192 .f32) (wv : FVec F S192x192 .f32) (bv : FVec F S192 .f32) (w : FVec F S384x96 .f32) (bg : FVec F S96 .f32)
    (wg : FVec F S96x1 .f32) (b2 : FVec F S1 .f32) (h : FVec F S4096x21x192 .f32) : FVec F S4096x21x192 .f32 :=
  add target h (msg (gate (hidden (rows source (norm g b h)) (rows target (norm g b h)) w bg) wg b2) (value (rows source (norm g b h)) wv bv))

/-- The normalization, at an index. -/
theorem norm_at (g b : FVec Ideal S192 .f32) (h : FVec Ideal S4096x21x192 .f32) (n : Fin 4096) (l : Fin 21) (j : Fin 192) :
    norm g b h (ix3 n l j) = Math.norm (fun k => g (ix1 k)) (fun k => b (ix1 k)) (fun k => h (ix3 n l k)) j := by
  pointwise [norm, mean, centre, wide]
  unfold Math.norm
  rw [← Math.div_sqrt _ _ (Math.spread_pos _)]
  rfl

/-- The embedding, at an index. -/
theorem emb_at (x : FVec Ideal S4096x21x3 .f32) (win : FVec Ideal S3x192 .f32) (bin : FVec Ideal S192 .f32) (je : FVec Ideal S21x192 .f32)
    (n : Fin 4096) (l : Fin 21) (j : Fin 192) :
    emb x win bin je (ix3 n l j) = x (ix3 n l 0) * win (ix2 0 j) + x (ix3 n l 1) * win (ix2 1 j) + x (ix3 n l 2) * win (ix2 2 j) + bin (ix1 j) + je (ix2 l j) := by
  pointwise [emb, wide]
  rw [Fin.sum_univ_three]

/-- The hidden units, at an index. -/
theorem hidden_at (hs hd : FVec Ideal S4096x63x192 .f32) (w : FVec Ideal S384x96 .f32) (bg : FVec Ideal S96 .f32) (n : Fin 4096) (e : Fin 63)
    (m : Fin 96) : hidden hs hd w bg (ix3 n e m)
      = ((∑ k : Fin 192, hs (ix3 n e k) * w (ix2 ⟨k.val, by omega⟩ m)) + bg (ix1 m)) + ∑ k : Fin 192, hd (ix3 n e k) * w (ix2 ⟨192 + k.val, by omega⟩ m) := by
  pointwise [hidden]
  rw [add_right_comm]

/-- The gate, at an index. -/
theorem gate_at (u : FVec Ideal S4096x63x96 .f32) (w : FVec Ideal S96x1 .f32) (b : FVec Ideal S1 .f32) (n : Fin 4096) (e : Fin 63) :
    gate u w b (ix3 n e 0) = Ideal.logistic ((∑ m, Math.act (u (ix3 n e m)) * w (ix2 m 0)) + b (ix1 0)) := by
  pointwise [gate, act]
  unfold Math.act
  simp only [EReal.neg_mul, Ideal.erfc_neg]
  rfl

/-- The values, at an index. -/
theorem value_at (hs : FVec Ideal S4096x63x192 .f32) (w : FVec Ideal S192x192 .f32) (b : FVec Ideal S192 .f32) (n : Fin 4096) (e : Fin 63)
    (j : Fin 192) : value hs w b (ix3 n e j) = (∑ k, hs (ix3 n e k) * w (ix2 k j)) + b (ix1 j) := by
  pointwise [value]

/-- The messages, at an index. -/
theorem msg_at (g : FVec Ideal S4096x63x1 .f32) (v : FVec Ideal S4096x63x192 .f32) (n : Fin 4096) (e : Fin 63) (j : Fin 192) :
    msg g v (ix3 n e j) = g (ix3 n e 0) * v (ix3 n e j) := by
  pointwise [msg]

end Cert.Ref

end
-- ==== Proof.Edges.lean ====
/- The reference's gather along the edges and its sum at the edges' targets, at an index. -/
module

public import proofs.«01_k».proof.Proof.Ref
public import Idealize.ShloMosaic.Lib.Routing.OpsPair

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

/-- The source of an edge. -/
def src (i : Fin 63) : Fin 21 := ⟨(lit0 i).toNat % 21, Nat.mod_lt _ (by omega)⟩
/-- The target of an edge. -/
def tgt (i : Fin 63) : Fin 21 := ⟨(lit1 i).toNat % 21, Nat.mod_lt _ (by omega)⟩

/-- The column of an edge list, at an index. -/
theorem column_at (e : IVec S63 32) (i : Fin 63) : column e (ix2 i 0) = e (ix1 i) := by
  pointwise [column]

/-- The sources' words. -/
theorem source_at (i : Fin 63) : source (ix1 i) = BitVec.ofNat 32 (src i).val := by
  revert i
  decide +kernel

/-- The targets' words. -/
theorem target_at (i : Fin 63) : target (ix1 i) = BitVec.ofNat 32 (tgt i).val := by
  revert i
  decide +kernel

/-- The rows along an edge list, at an index: the row that the list names. -/
theorem rows_at (e : IVec S63 32) (h : FVec Ideal S4096x21x192 .f32) (n : Fin 4096) (i : Fin 63) (j : Fin 192) (l : Fin 21)
    (he : e (ix1 i) = BitVec.ofNat 32 l.val) : rows e h (ix3 n i j) = h (ix3 n l j) := by
  unfold rows Host.gather
  refine congrArg h (funext fun a => Fin.ext ?_)
  have hl := l.isLt
  have hsi : ∀ c, gather_S4096x21x192_S63x1_S4096x63x192_02_1_n_n_1_1_40961192.siIdx (ix3 n i j) c = ix2 i (0 : Fin 1) := by
    intro c
    funext b
    match b with
    | ⟨0, _⟩ => rfl
    | ⟨1, _⟩ => exact Subsingleton.elim (α := Fin 1) _ _
  match a with
  | ⟨0, _⟩ =>
    show gather_S4096x21x192_S63x1_S4096x63x192_02_1_n_n_1_1_40961192.start (ix3 n i j) (column e) 0
      + gather_S4096x21x192_S63x1_S4096x63x192_02_1_n_n_1_1_40961192.batchCoord (ix3 n i j) 0
      + gather_S4096x21x192_S63x1_S4096x63x192_02_1_n_n_1_1_40961192.offCoord (ix3 n i j) 0 = n.val
    have s0 : gather_S4096x21x192_S63x1_S4096x63x192_02_1_n_n_1_1_40961192.start (ix3 n i j) (column e) 0 = 0 := rfl
    have b0 : gather_S4096x21x192_S63x1_S4096x63x192_02_1_n_n_1_1_40961192.batchCoord (ix3 n i j) 0 = 0 := rfl
    have o0 : gather_S4096x21x192_S63x1_S4096x63x192_02_1_n_n_1_1_40961192.offCoord (ix3 n i j) 0 = n.val := rfl
    rw [s0, b0, o0]
    omega
  | ⟨1, _⟩ =>
    show gather_S4096x21x192_S63x1_S4096x63x192_02_1_n_n_1_1_40961192.start (ix3 n i j) (column e) 1
      + gather_S4096x21x192_S63x1_S4096x63x192_02_1_n_n_1_1_40961192.batchCoord (ix3 n i j) 1
      + gather_S4096x21x192_S63x1_S4096x63x192_02_1_n_n_1_1_40961192.offCoord (ix3 n i j) 1 = l.val
    have s1 : gather_S4096x21x192_S63x1_S4096x63x192_02_1_n_n_1_1_40961192.start (ix3 n i j) (column e) 1 = l.val := by
      unfold GatherDims.start
      rw [dif_pos (by decide), hsi, column_at, he, StableHlo.Predicate.toInt_ofNat_small _ (by omega)]
      show min ((l.val : Int)).toNat 20 = l.val
      omega
    have b1 : gather_S4096x21x192_S63x1_S4096x63x192_02_1_n_n_1_1_40961192.batchCoord (ix3 n i j) 1 = 0 := rfl
    have o1 : gather_S4096x21x192_S63x1_S4096x63x192_02_1_n_n_1_1_40961192.offCoord (ix3 n i j) 1 = 0 := rfl
    rw [s1, b1, o1]
    omega
  | ⟨2, _⟩ =>
    show gather_S4096x21x192_S63x1_S4096x63x192_02_1_n_n_1_1_40961192.start (ix3 n i j) (column e) 2
      + gather_S4096x21x192_S63x1_S4096x63x192_02_1_n_n_1_1_40961192.batchCoord (ix3 n i j) 2
      + gather_S4096x21x192_S63x1_S4096x63x192_02_1_n_n_1_1_40961192.offCoord (ix3 n i j) 2 = j.val
    have s2 : gather_S4096x21x192_S63x1_S4096x63x192_02_1_n_n_1_1_40961192.start (ix3 n i j) (column e) 2 = 0 := rfl
    have b2 : gather_S4096x21x192_S63x1_S4096x63x192_02_1_n_n_1_1_40961192.batchCoord (ix3 n i j) 2 = 0 := rfl
    have o2 : gather_S4096x21x192_S63x1_S4096x63x192_02_1_n_n_1_1_40961192.offCoord (ix3 n i j) 2 = j.val := rfl
    rw [s2, b2, o2]
    omega

/-- Where a message lands: on its batch row and column, at its edge's target. -/
theorem lands (e : IVec S63 32) (n n' : Fin 4096) (i : Fin 63) (j j' : Fin 192) (l d : Fin 21)
    (he : e (ix1 i) = BitVec.ofNat 32 l.val) :
    scatter_S4096x21x192_S63x1_S4096x63x192_02_1_1_1.resultIdx? (ix3 n i j) (column e) = some (ix3 n' d j')
      ↔ n = n' ∧ l = d ∧ j = j' := by
  rw [Routing.resultIdx?_eq_some]
  have hl := l.isLt
  have e0 : scatter_S4096x21x192_S63x1_S4096x63x192_02_1_1_1.start (ix3 n i j) (column e) 0 = 0 := rfl
  have e2 : scatter_S4096x21x192_S63x1_S4096x63x192_02_1_1_1.start (ix3 n i j) (column e) 2 = 0 := rfl
  have e1 : scatter_S4096x21x192_S63x1_S4096x63x192_02_1_1_1.start (ix3 n i j) (column e) 1 = (l.val : Int) := by
    have hsi : ∀ c, scatter_S4096x21x192_S63x1_S4096x63x192_02_1_1_1.siIdx (ix3 n i j) c = ix2 i (0 : Fin 1) := by
      intro c
      funext b
      match b with
      | ⟨0, _⟩ => rfl
      | ⟨1, _⟩ => exact Subsingleton.elim (α := Fin 1) _ _
    unfold ScatterDims.start
    rw [dif_pos (by decide), hsi, column_at, he, StableHlo.Predicate.toInt_ofNat_small _ (by omega)]
  have w0 : scatter_S4096x21x192_S63x1_S4096x63x192_02_1_1_1.window (ix3 n i j) 0 = n.val := rfl
  have w1 : scatter_S4096x21x192_S63x1_S4096x63x192_02_1_1_1.window (ix3 n i j) 1 = 0 := rfl
  have w2 : scatter_S4096x21x192_S63x1_S4096x63x192_02_1_1_1.window (ix3 n i j) 2 = j.val := rfl
  constructor
  · intro h
    have h0 := h 0
    have h1 := h 1
    have h2 := h 2
    rw [e0, w0] at h0
    rw [e1, w1] at h1
    rw [e2, w2] at h2
    simp only [ix3_0, ix3_1, ix3_2] at h0 h1 h2
    exact ⟨Fin.ext (by omega), Fin.ext (by omega), Fin.ext (by omega)⟩
  · rintro ⟨rfl, rfl, rfl⟩ a
    match a with
    | ⟨0, _⟩ => exact (congrArg₂ (· + ·) e0 (congrArg Nat.cast w0)).trans (by simp)
    | ⟨1, _⟩ => exact (congrArg₂ (· + ·) e1 (congrArg Nat.cast w1)).trans (by simp)
    | ⟨2, _⟩ => exact (congrArg₂ (· + ·) e2 (congrArg Nat.cast w2)).trans (by simp)

/-- The messages that land on an entry are those of its batch row and column whose edge has that target. -/
theorem lands_target (k : S4096x63x192.Idx) (n : Fin 4096) (d : Fin 21) (j : Fin 192) :
    scatter_S4096x21x192_S63x1_S4096x63x192_02_1_1_1.resultIdx? k (column target) = some (ix3 n d j)
      ↔ k = ix3 n (k 1 : Fin 63) j ∧ tgt (k 1) = d := by
  obtain ⟨a, i, b, rfl⟩ : ∃ (a : Fin 4096) (i : Fin 63) (b : Fin 192), k = ix3 a i b := ⟨k 0, k 1, k 2, eq_ix3 k⟩
  rw [lands _ _ _ _ _ _ _ _ (target_at i)]
  constructor
  · rintro ⟨rfl, rfl, rfl⟩
    exact ⟨rfl, rfl⟩
  · rintro ⟨h, rfl⟩
    exact ⟨congrFun h 0, rfl, congrFun h 2⟩

/-- The state with the messages added, at an index: the sum of the messages whose edge has that target. -/
theorem add_at (h : FVec Ideal S4096x21x192 .f32) (v : FVec Ideal S4096x63x192 .f32) (n : Fin 4096) (d : Fin 21) (j : Fin 192) :
    add target h v (ix3 n d j) = h (ix3 n d j) + ∑ i ∈ Finset.univ.filter (fun i => tgt i = d), v (ix3 n i j) := by
  unfold add
  show h (ix3 n d j) + (Ideal.ofBits .f32 0x00000000#32 + ∑ k ∈ Finset.univ.filter (fun k => scatter_S4096x21x192_S63x1_S4096x63x192_02_1_1_1.resultIdx? k (column target) = some (ix3 n d j)), v k) = _
  have hz : Ideal.ofBits .f32 0x00000000#32 = 0 := by simp [Ideal.ofBits, Ideal.ieee]
  rw [hz, zero_add]
  refine congrArg (h (ix3 n d j) + ·) (Finset.sum_nbij' (fun k => (k 1 : Fin 63)) (fun i => ix3 n i j) ?_ ?_ ?_ ?_ ?_)
  · intro k hk
    exact Finset.mem_filter.2 ⟨Finset.mem_univ _, ((lands_target k n d j).1 (Finset.mem_filter.1 hk).2).2⟩
  · intro i hi
    exact Finset.mem_filter.2 ⟨Finset.mem_univ _, (lands_target _ n d j).2 ⟨rfl, (Finset.mem_filter.1 hi).2⟩⟩
  · intro k hk
    exact ((lands_target k n d j).1 (Finset.mem_filter.1 hk).2).1.symm
  · intro i _
    rfl
  · intro k hk
    exact congrArg v ((lands_target k n d j).1 (Finset.mem_filter.1 hk).2).1

/-- The sum over the edges into a landmark, in the order in which the kernel adds. -/
theorem edges (f : Fin 21 → Fin 21 → EReal) (d : Fin 21) :
    (∑ i ∈ Finset.univ.filter (fun i => tgt i = d), f (src i) (tgt i))
      = (Net.srcs d).foldl (fun acc s => acc + f s d) (f (Net.src0 d) d) := by
  rw [Math.foldl_sum (fun s => f s d)]
  have e : (∑ i ∈ Finset.univ.filter (fun i => tgt i = d), f (src i) (tgt i))
      = (((Finset.univ.filter (fun i => tgt i = d)).val.map src).map (fun s => f s d)).sum := by
    rw [Multiset.map_map]
    exact Finset.sum_congr rfl fun i hi => by rw [(Finset.mem_filter.1 hi).2]; rfl
  have l : ∀ d, (Finset.univ.filter (fun i => tgt i = d)).val.map src = ((Net.src0 d :: Net.srcs d : List (Fin 21)) : Multiset (Fin 21)) := by
    decide +kernel
  rw [e, l, Multiset.map_coe, Multiset.sum_coe, List.map_cons, List.sum_cons]

end Cert.Ref

end
-- ==== Proof.Reference.lean ====
/- The reference's array of logits is the network of `Cert.Math` on each batch row. -/
module

public import proofs.«01_k».proof.Proof.Edges
public import proofs.«01_k».proof.Proof.Logits

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

/-- The parameters of a layer, from its arrays. -/
def par (g b : FVec Ideal S192 .f32) (wv : FVec Ideal S192x192 .f32) (bv : FVec Ideal S192 .f32) (w : FVec Ideal S384x96 .f32)
    (bg : FVec Ideal S96 .f32) (wg : FVec Ideal S96x1 .f32) (b2 : FVec Ideal S1 .f32) : Math.Par where
  g j := g (ix1 j)
  b j := b (ix1 j)
  wv q j := wv (ix2 q j)
  bv j := bv (ix1 j)
  ws q m := w (ix2 ⟨q.val, by omega⟩ m)
  wd q m := w (ix2 ⟨192 + q.val, by omega⟩ m)
  bg m := bg (ix1 m)
  wg m := wg (ix2 m 0)
  b2 := b2 (ix1 0)

/-- One layer, at an index. -/
theorem layer_at (g b : FVec Ideal S192 .f32) (wv : FVec Ideal S192x192 .f32) (bv : FVec Ideal S192 .f32) (w : FVec Ideal S384x96 .f32)
    (bg : FVec Ideal S96 .f32) (wg : FVec Ideal S96x1 .f32) (b2 : FVec Ideal S1 .f32) (h : FVec Ideal S4096x21x192 .f32)
    (n : Fin 4096) (d : Fin 21) (j : Fin 192) :
    layer g b wv bv w bg wg b2 h (ix3 n d j) = Math.layer (par g b wv bv w bg wg b2) (fun l k => h (ix3 n l k)) d j := by
  unfold layer Math.layer
  rw [add_at, ← edges fun s d => Math.msg (par g b wv bv w bg wg b2)
    (Math.norm (par g b wv bv w bg wg b2).g (par g b wv bv w bg wg b2).b fun k => h (ix3 n s k))
    (Math.norm (par g b wv bv w bg wg b2).g (par g b wv bv w bg wg b2).b fun k => h (ix3 n d k)) j]
  refine congrArg (h (ix3 n d j) + ·) (Finset.sum_congr rfl fun i _ => ?_)
  have es : ∀ k, rows source (norm g b h) (ix3 n i k) = Math.norm (fun k => g (ix1 k)) (fun k => b (ix1 k)) (fun k => h (ix3 n (src i) k)) k :=
    fun k => (rows_at source _ n i k _ (source_at i)).trans (norm_at g b h n _ k)
  have et : ∀ k, rows target (norm g b h) (ix3 n i k) = Math.norm (fun k => g (ix1 k)) (fun k => b (ix1 k)) (fun k => h (ix3 n (tgt i) k)) k :=
    fun k => (rows_at target _ n i k _ (target_at i)).trans (norm_at g b h n _ k)
  rw [msg_at, gate_at, value_at]
  simp only [hidden_at, es, et]
  rfl

/-- Row 0 of each parameter array holds the parameters of layer 0. -/
theorem par0 (a4 a5 : FVec Ideal S3x192 .f32) (a6 : FVec Ideal S3x192x192 .f32) (a7 : FVec Ideal S3x192 .f32) (a8 : FVec Ideal S3x384x96 .f32)
    (a9 : FVec Ideal S3x96 .f32) (a10 : FVec Ideal S3x96x1 .f32) (a11 : FVec Ideal S3x1 .f32) :
    par (shapeCast S192 (extractStridedSlice S1x192 ![0, 0] a4 slices_S3x192_S1x192_0_0) shapeCasts_S1x192_S192) (shapeCast S192 (extractStridedSlice S1x192 ![0, 0] a5 slices_S3x192_S1x192_0_0) shapeCasts_S1x192_S192) (shapeCast S192x192 (extractStridedSlice S1x192x192 ![0, 0, 0] a6 slices_S3x192x192_S1x192x192_0_0_0) shapeCasts_S1x192x192_S192x192) (shapeCast S192 (extractStridedSlice S1x192 ![0, 0] a7 slices_S3x192_S1x192_0_0) shapeCasts_S1x192_S192) (shapeCast S384x96 (extractStridedSlice S1x384x96 ![0, 0, 0] a8 slices_S3x384x96_S1x384x96_0_0_0) shapeCasts_S1x384x96_S384x96) (shapeCast S96 (extractStridedSlice S1x96 ![0, 0] a9 slices_S3x96_S1x96_0_0) shapeCasts_S1x96_S96) (shapeCast S96x1 (extractStridedSlice S1x96x1 ![0, 0, 0] a10 slices_S3x96x1_S1x96x1_0_0_0) shapeCasts_S1x96x1_S96x1) (shapeCast S1 (extractStridedSlice S1x1 ![0, 0] a11 slices_S3x1_S1x1_0_0) shapeCasts_S1x1_S1)
      = Net.argPar a4 a5 a6 a7 a8 a9 a10 a11 0 := by
  unfold par Net.argPar
  congr 1 <;> funext <;> pointwise

/-- Row 1 of each parameter array holds the parameters of layer 1. -/
theorem par1 (a4 a5 : FVec Ideal S3x192 .f32) (a6 : FVec Ideal S3x192x192 .f32) (a7 : FVec Ideal S3x192 .f32) (a8 : FVec Ideal S3x384x96 .f32)
    (a9 : FVec Ideal S3x96 .f32) (a10 : FVec Ideal S3x96x1 .f32) (a11 : FVec Ideal S3x1 .f32) :
    par (shapeCast S192 (extractStridedSlice S1x192 ![1, 0] a4 slices_S3x192_S1x192_1_0) shapeCasts_S1x192_S192) (shapeCast S192 (extractStridedSlice S1x192 ![1, 0] a5 slices_S3x192_S1x192_1_0) shapeCasts_S1x192_S192) (shapeCast S192x192 (extractStridedSlice S1x192x192 ![1, 0, 0] a6 slices_S3x192x192_S1x192x192_1_0_0) shapeCasts_S1x192x192_S192x192) (shapeCast S192 (extractStridedSlice S1x192 ![1, 0] a7 slices_S3x192_S1x192_1_0) shapeCasts_S1x192_S192) (shapeCast S384x96 (extractStridedSlice S1x384x96 ![1, 0, 0] a8 slices_S3x384x96_S1x384x96_1_0_0) shapeCasts_S1x384x96_S384x96) (shapeCast S96 (extractStridedSlice S1x96 ![1, 0] a9 slices_S3x96_S1x96_1_0) shapeCasts_S1x96_S96) (shapeCast S96x1 (extractStridedSlice S1x96x1 ![1, 0, 0] a10 slices_S3x96x1_S1x96x1_1_0_0) shapeCasts_S1x96x1_S96x1) (shapeCast S1 (extractStridedSlice S1x1 ![1, 0] a11 slices_S3x1_S1x1_1_0) shapeCasts_S1x1_S1)
      = Net.argPar a4 a5 a6 a7 a8 a9 a10 a11 1 := by
  unfold par Net.argPar
  congr 1 <;> funext <;> pointwise

/-- Row 2 of each parameter array holds the parameters of layer 2. -/
theorem par2 (a4 a5 : FVec Ideal S3x192 .f32) (a6 : FVec Ideal S3x192x192 .f32) (a7 : FVec Ideal S3x192 .f32) (a8 : FVec Ideal S3x384x96 .f32)
    (a9 : FVec Ideal S3x96 .f32) (a10 : FVec Ideal S3x96x1 .f32) (a11 : FVec Ideal S3x1 .f32) :
    par (shapeCast S192 (extractStridedSlice S1x192 ![2, 0] a4 slices_S3x192_S1x192_2_0) shapeCasts_S1x192_S192) (shapeCast S192 (extractStridedSlice S1x192 ![2, 0] a5 slices_S3x192_S1x192_2_0) shapeCasts_S1x192_S192) (shapeCast S192x192 (extractStridedSlice S1x192x192 ![2, 0, 0] a6 slices_S3x192x192_S1x192x192_2_0_0) shapeCasts_S1x192x192_S192x192) (shapeCast S192 (extractStridedSlice S1x192 ![2, 0] a7 slices_S3x192_S1x192_2_0) shapeCasts_S1x192_S192) (shapeCast S384x96 (extractStridedSlice S1x384x96 ![2, 0, 0] a8 slices_S3x384x96_S1x384x96_2_0_0) shapeCasts_S1x384x96_S384x96) (shapeCast S96 (extractStridedSlice S1x96 ![2, 0] a9 slices_S3x96_S1x96_2_0) shapeCasts_S1x96_S96) (shapeCast S96x1 (extractStridedSlice S1x96x1 ![2, 0, 0] a10 slices_S3x96x1_S1x96x1_2_0_0) shapeCasts_S1x96x1_S96x1) (shapeCast S1 (extractStridedSlice S1x1 ![2, 0] a11 slices_S3x1_S1x1_2_0) shapeCasts_S1x1_S1)
      = Net.argPar a4 a5 a6 a7 a8 a9 a10 a11 2 := by
  unfold par Net.argPar
  congr 1 <;> funext <;> pointwise

/-- The head. -/
def head (g b : FVec Ideal S192 .f32) (wc : FVec Ideal S192x7 .f32) (bc : FVec Ideal S7 .f32) (h : FVec Ideal S4096x21x192 .f32) : FVec Ideal S4096x7 .f32 :=
  addf (Host.dotGeneral dot_S4096x192_S192x7_S4096x7_1_0_0_1_n_n none
      (Host.divf (Host.reduceAdd (norm g b h) (constant S_ .f32 0x00000000#32) reducesTo_S4096x21x192_S4096x192_d1 h_S_)
        (broadcastInDim S4096x192 ![] bcast_S_S4096x192 (constant S_ .f32 0x41A80000#32))) wc)
    (broadcastInDim S4096x7 ![0, 1] bcast_S1x7_S4096x7_0_1 (broadcastInDim S1x7 ![1] bcast_S7_S1x7_1 bc))

/-- The head, at an index. -/
theorem head_at (g b : FVec Ideal S192 .f32) (wc : FVec Ideal S192x7 .f32) (bc : FVec Ideal S7 .f32) (h : FVec Ideal S4096x21x192 .f32)
    (n : Fin 4096) (c : Fin 7) :
    head g b wc bc h (ix2 n c) = Math.head (fun k => g (ix1 k)) (fun k => b (ix1 k)) (fun k c => wc (ix2 k c)) (fun c => bc (ix1 c)) (fun l k => h (ix3 n l k)) c := by
  unfold head
  have e := norm_at g b h
  generalize norm g b h = x at e ⊢
  pointwise
  simp only [Math.div21, e]
  rfl

variable (V : Valuation τ sig (Elt Ideal))

/-- The state after layer 0. -/
theorem v91_eq : Value.res_main_v91 V = layer (shapeCast S192 (extractStridedSlice S1x192 ![0, 0] (V (Proc.devRef .tc main_arg4)) slices_S3x192_S1x192_0_0) shapeCasts_S1x192_S192) (shapeCast S192 (extractStridedSlice S1x192 ![0, 0] (V (Proc.devRef .tc main_arg5)) slices_S3x192_S1x192_0_0) shapeCasts_S1x192_S192) (shapeCast S192x192 (extractStridedSlice S1x192x192 ![0, 0, 0] (V (Proc.devRef .tc main_arg6)) slices_S3x192x192_S1x192x192_0_0_0) shapeCasts_S1x192x192_S192x192) (shapeCast S192 (extractStridedSlice S1x192 ![0, 0] (V (Proc.devRef .tc main_arg7)) slices_S3x192_S1x192_0_0) shapeCasts_S1x192_S192) (shapeCast S384x96 (extractStridedSlice S1x384x96 ![0, 0, 0] (V (Proc.devRef .tc main_arg8)) slices_S3x384x96_S1x384x96_0_0_0) shapeCasts_S1x384x96_S384x96) (shapeCast S96 (extractStridedSlice S1x96 ![0, 0] (V (Proc.devRef .tc main_arg9)) slices_S3x96_S1x96_0_0) shapeCasts_S1x96_S96) (shapeCast S96x1 (extractStridedSlice S1x96x1 ![0, 0, 0] (V (Proc.devRef .tc main_arg10)) slices_S3x96x1_S1x96x1_0_0_0) shapeCasts_S1x96x1_S96x1) (shapeCast S1 (extractStridedSlice S1x1 ![0, 0] (V (Proc.devRef .tc main_arg11)) slices_S3x1_S1x1_0_0) shapeCasts_S1x1_S1) (Value.res_main_v6 V) := rfl

/-- The state after layer 1. -/
theorem v176_eq : Value.res_main_v176 V = layer (shapeCast S192 (extractStridedSlice S1x192 ![1, 0] (V (Proc.devRef .tc main_arg4)) slices_S3x192_S1x192_1_0) shapeCasts_S1x192_S192) (shapeCast S192 (extractStridedSlice S1x192 ![1, 0] (V (Proc.devRef .tc main_arg5)) slices_S3x192_S1x192_1_0) shapeCasts_S1x192_S192) (shapeCast S192x192 (extractStridedSlice S1x192x192 ![1, 0, 0] (V (Proc.devRef .tc main_arg6)) slices_S3x192x192_S1x192x192_1_0_0) shapeCasts_S1x192x192_S192x192) (shapeCast S192 (extractStridedSlice S1x192 ![1, 0] (V (Proc.devRef .tc main_arg7)) slices_S3x192_S1x192_1_0) shapeCasts_S1x192_S192) (shapeCast S384x96 (extractStridedSlice S1x384x96 ![1, 0, 0] (V (Proc.devRef .tc main_arg8)) slices_S3x384x96_S1x384x96_1_0_0) shapeCasts_S1x384x96_S384x96) (shapeCast S96 (extractStridedSlice S1x96 ![1, 0] (V (Proc.devRef .tc main_arg9)) slices_S3x96_S1x96_1_0) shapeCasts_S1x96_S96) (shapeCast S96x1 (extractStridedSlice S1x96x1 ![1, 0, 0] (V (Proc.devRef .tc main_arg10)) slices_S3x96x1_S1x96x1_1_0_0) shapeCasts_S1x96x1_S96x1) (shapeCast S1 (extractStridedSlice S1x1 ![1, 0] (V (Proc.devRef .tc main_arg11)) slices_S3x1_S1x1_1_0) shapeCasts_S1x1_S1) (Value.res_main_v91 V) := rfl

/-- The state after layer 2. -/
theorem v261_eq : Value.res_main_v261 V = layer (shapeCast S192 (extractStridedSlice S1x192 ![2, 0] (V (Proc.devRef .tc main_arg4)) slices_S3x192_S1x192_2_0) shapeCasts_S1x192_S192) (shapeCast S192 (extractStridedSlice S1x192 ![2, 0] (V (Proc.devRef .tc main_arg5)) slices_S3x192_S1x192_2_0) shapeCasts_S1x192_S192) (shapeCast S192x192 (extractStridedSlice S1x192x192 ![2, 0, 0] (V (Proc.devRef .tc main_arg6)) slices_S3x192x192_S1x192x192_2_0_0) shapeCasts_S1x192x192_S192x192) (shapeCast S192 (extractStridedSlice S1x192 ![2, 0] (V (Proc.devRef .tc main_arg7)) slices_S3x192_S1x192_2_0) shapeCasts_S1x192_S192) (shapeCast S384x96 (extractStridedSlice S1x384x96 ![2, 0, 0] (V (Proc.devRef .tc main_arg8)) slices_S3x384x96_S1x384x96_2_0_0) shapeCasts_S1x384x96_S384x96) (shapeCast S96 (extractStridedSlice S1x96 ![2, 0] (V (Proc.devRef .tc main_arg9)) slices_S3x96_S1x96_2_0) shapeCasts_S1x96_S96) (shapeCast S96x1 (extractStridedSlice S1x96x1 ![2, 0, 0] (V (Proc.devRef .tc main_arg10)) slices_S3x96x1_S1x96x1_2_0_0) shapeCasts_S1x96x1_S96x1) (shapeCast S1 (extractStridedSlice S1x1 ![2, 0] (V (Proc.devRef .tc main_arg11)) slices_S3x1_S1x1_2_0) shapeCasts_S1x1_S1) (Value.res_main_v176 V) := rfl

/-- Coordinate `i` of landmark `l` among the 63. -/
theorem coords_at (x : FVec Ideal S4096x21x3 .f32) (n : Fin 4096) (l : Fin 21) (i : Fin 3) (q : Fin 63) (h : q.val = 3 * l.val + i.val) :
    Net.coords x n q = x (ix3 n l i) := by
  unfold Net.coords
  exact congrArg₂ (fun a b => x (ix3 n a b)) (Fin.ext (by simp only; omega)) (Fin.ext (by simp only; omega))

/-- The reference's logits are the network's. -/
theorem logits_eq : head (V (Proc.devRef .tc main_arg12)) (V (Proc.devRef .tc main_arg13)) (V (Proc.devRef .tc main_arg14)) (V (Proc.devRef .tc main_arg15)) (Value.res_main_v261 V)
    = Net.logits (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  funext i
  obtain ⟨n, o, rfl⟩ : ∃ (n : Fin 4096) (o : Fin 7), i = ix2 n o := ⟨i 0, i 1, eq_ix2 i⟩
  have e6 : ∀ l k, (Value.res_main_v6 V : FVec Ideal S4096x21x192 .f32) (ix3 n l k) = Math.emb (Net.coords (V (Proc.devRef .tc main_arg0)) n) (fun i k => ((V (Proc.devRef .tc main_arg1)) : FVec Ideal S3x192 .f32) (ix2 i k))
      (fun k => ((V (Proc.devRef .tc main_arg2)) : FVec Ideal S192 .f32) (ix1 k)) (fun l k => ((V (Proc.devRef .tc main_arg3)) : FVec Ideal S21x192 .f32) (ix2 l k)) l k := by
    intro l k
    refine (emb_at _ _ _ _ n l k).trans ?_
    unfold Math.emb
    rw [coords_at _ n l 0 _ rfl, coords_at _ n l 1 _ rfl, coords_at _ n l 2 _ rfl]
  rw [head_at]
  simp only [v261_eq, v176_eq, v91_eq, layer_at, par0, par1, par2, e6]
  rfl

end Cert.Ref

end
-- ==== Proof.Algebraic.lean ====
/- The kernel with the named constant and the reference end with the same logits, from the same arguments. -/
module

public import proofs.«01_k».proof.Defs
public import proofs.«01_k».proof.Proof.Result
public import proofs.«01_k».proof.Proof.Reference

@[expose] public section

set_option maxRecDepth 16384

noncomputable section

namespace Cert.Proof

open Idealize.ShloMosaic Idealize.SL.Sem

/-- Both programs leave the array of logits of `Cert.Net`. -/
theorem algebraic : Cert.algebraic_KernelIdeal_ReferenceIdeal := by
  intro m g m' g' hpre hagree
  refine ⟨fun c => Cert.Net.result m c,
    θ_run_mono (Cert.KernelIdeal.Value.run_blocks m g) fun r h c => ⟨(h c).1.trans (Cert.Net.result_eq m c), (h c).2⟩,
    θ_run_mono (Cert.ReferenceIdeal.Value.run m' g') fun r h c => ⟨(h c).1.trans ?_, (h c).2⟩⟩
  obtain ⟨e0, e1, e2, e3, e4, e5, e6, e7, e8, e9, e10, e11, e12, e13, e14, e15⟩ := hagree c
  refine (Cert.Ref.logits_eq (StableHlo.launchContents m' c)).trans ?_
  show _ = Cert.Net.result m c
  unfold Cert.Net.result
  rw [← e0, ← e1, ← e2, ← e3, ← e4, ← e5, ← e6, ← e7, ← e8, ← e9, ← e10, ← e11, ← e12, ← e13, ← e14, ← e15]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import Idealize.ShloMosaic.Adequacy
public import Idealize.ShloMosaic.Init
public import proofs.«01_k».proof.Proof.Frames
public import proofs.«01_k».proof.Proof.Algebraic

@[expose] public section

noncomputable section

namespace Cert.Proof

/-- The claims hold. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
